-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scalable [hPre_scalable : Cert.Pre_scalable.Facts] (m : (ℓ : Loc Cert.KernelIdeal.nD Cert.KernelIdeal.τ Cert.KernelIdeal.sig) → Buf (Elt Ideal) ℓ) : Prop :=
  ∀ c : Dev Cert.KernelIdeal.nD,
    (Cert.Pre_scalable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scalable [hPre_scalable : Cert.Pre_scalable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scalable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_scalable [hKernelIdeal : Cert.KernelIdeal.Facts] [hPre_scalable : Cert.Pre_scalable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scalable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_scalable [hReferenceIdeal : Cert.ReferenceIdeal.Facts] [hPre_scalable : Cert.Pre_scalable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scalable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_scalable [hKernelIdeal : Cert.KernelIdeal.Facts] [hReferenceIdeal : Cert.ReferenceIdeal.Facts] [hPre_scalable : Cert.Pre_scalable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scalable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_scalable : Cert.Pre_scalable.Facts),
    quiescent_Kernel (hKernel := hKernel)
    ∧ quiescent_KernelIdeal (hKernelIdeal := hKernelIdeal)
    ∧ quiescent_KernelIdeal_pre_scalable (hKernelIdeal := hKernelIdeal) (hPre_scalable := hPre_scalable)
    ∧ quiescent_ReferenceIdeal (hReferenceIdeal := hReferenceIdeal)
    ∧ quiescent_ReferenceIdeal_pre_scalable (hReferenceIdeal := hReferenceIdeal) (hPre_scalable := hPre_scalable)
    ∧ preserves_Kernel_KernelIdeal
    ∧ algebraic_KernelIdeal_ReferenceIdeal_pre_scalable (hKernelIdeal := hKernelIdeal) (hReferenceIdeal := hReferenceIdeal) (hPre_scalable := hPre_scalable)
-- ==== Pre_scalable.lean ====
abbrev S10000x128 : Shape := ⟨2, ![10000, 128]⟩
abbrev S10000x10000 : Shape := ⟨2, ![10000, 10000]⟩
abbrev S1 : Shape := ⟨1, ![1]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  shapeCasts_S1_S_ : S1.ShapeCasts S_

variable [Facts]

def fn_part1 {F : FTy → Type} [FloatOps F] (main_arg5 : FVec F S1 .f32) (main_v11 : IVec S_ 1) (main_v15 : IVec S_ 1) (main_v16 : FVec F S10000x10000 .f32) : IVec S_ 1 :=
  let main_cst_5 : FVec F S_ .f32 := constant S_ .f32 0x7F800000#32
  let main_v17 : FVec F S10000x10000 .f32 := broadcastInDim S10000x10000 ![] bcast_S_S10000x10000 main_cst_5
  let main_v18 : IVec S10000x10000 1 := cmpf .olt main_v16 main_v17
  let main_c_6 : IVec S_ 1 := constantI S_ 1 1#1
  let main_v19 : IVec S_ 1 := (fun x v => Host.reduce IntOp.andi x v reducesTo_S10000x10000_S_d0_1 h_S_) main_v18 main_c_6
  let main_v20 : IVec S_ 1 := andi main_v15 main_v19
  let main_v21 : FVec F S_ .f32 := shapeCast S_ main_arg5 shapeCasts_S1_S_
  let main_cst_7 : FVec F S_ .f32 := constant S_ .f32 0xBF800000#32
  let main_v22 : IVec S_ 1 := cmpf .oge main_v21 main_cst_7
  let main_v23 : IVec S_ 1 := ori main_v22 main_v20
  let main_v24 : IVec S_ 1 := andi main_v11 main_v23
  main_v24

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S1 .f32) (main_arg5 : FVec F S1 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x128 .f32) (main_arg19 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg2
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S_ .f32 := shapeCast S_ main_arg4 shapeCasts_S1_S_
  let main_cst_2 : FVec F S_ .f32 := constant S_ .f32 0xBF800000#32
  let main_v10 : IVec S_ 1 := cmpf .oge main_v9 main_cst_2
  let main_v11 : IVec S_ 1 := ori main_v10 main_v8
  let main_v12 : FVec F S10000x128 .f32 := Host.absf main_arg1
  let main_cst_3 : FVec F S_ .f32 := constant S_ .f32 0x7F800000#32
  let main_v13 : FVec F S10000x128 .f32 := broadcastInDim S10000x128 ![] bcast_S_S10000x128 main_cst_3
  let main_v14 : IVec S10000x128 1 := cmpf .olt main_v12 main_v13
  let main_c_4 : IVec S_ 1 := constantI S_ 1 1#1
  let main_v15 : IVec S_ 1 := (fun x v => Host.reduce IntOp.andi x v reducesTo_S10000x128_S_d0_1 h_S_) main_v14 main_c_4
  let main_v16 : FVec F S10000x10000 .f32 := Host.absf main_arg3
  fn_part1 (F := F) main_arg5 main_v11 main_v15 main_v16
-- ==== Kernel.lean ====
abbrev S10000x128 : Shape := ⟨2, ![10000, 128]⟩
abbrev S10000x10000 : Shape := ⟨2, ![10000, 10000]⟩
abbrev S1 : Shape := ⟨1, ![1]⟩
abbrev S128x128 : Shape := ⟨2, ![128, 128]⟩
abbrev S128 : Shape := ⟨1, ![128]⟩
abbrev S256x128 : Shape := ⟨2, ![256, 128]⟩
abbrev S1x1 : Shape := ⟨2, ![1, 1]⟩
abbrev S1x128 : Shape := ⟨2, ![1, 128]⟩
abbrev S3x200x10000 : Shape := ⟨3, ![3, 200, 10000]⟩
abbrev S3 : Shape := ⟨1, ![3]⟩
abbrev S2x200x128 : Shape := ⟨3, ![2, 200, 128]⟩
abbrev S2 : Shape := ⟨1, ![2]⟩
abbrev S_ : Shape := ⟨0, ![]⟩
abbrev S1x200x10000 : Shape := ⟨3, ![1, 200, 10000]⟩
abbrev S200x10000 : Shape := ⟨2, ![200, 10000]⟩
abbrev S200x128 : Shape := ⟨2, ![200, 128]⟩
abbrev S1x200x128 : Shape := ⟨3, ![1, 200, 128]⟩

abbrev nBuf : Space → Nat
  | .hbm => 34
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S256x128, .f32⟩
  | .hbm, ⟨19, _⟩ => ⟨S128, .f32⟩
  | .hbm, ⟨20, _⟩ => ⟨S1x1, .f32⟩
  | .hbm, ⟨21, _⟩ => ⟨S1x1, .f32⟩
  | .hbm, ⟨22, _⟩ => ⟨S128x128, .f32⟩
  | .hbm, ⟨23, _⟩ => ⟨S128x128, .f32⟩
  | .hbm, ⟨24, _⟩ => ⟨S10000x128, .bf16⟩
  | .hbm, ⟨25, _⟩ => ⟨S10000x128, .bf16⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S10000x128, .f32⟩
  | .local _ .vmem, ⟨0, _⟩ => ⟨S1x1, .f32⟩
  | .local _ .vmem, ⟨1, _⟩ => ⟨S1x1, .f32⟩
  | .local _ .vmem, ⟨2, _⟩ => ⟨S10000x128, .bf16⟩
  | .local _ .vmem, ⟨3, _⟩ => ⟨S10000x128, .bf16⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S3x200x10000, .f32⟩
  | .local _ .vmem, ⟨20, _⟩ => ⟨S3x200x10000, .f32⟩
  | .local _ .vmem, ⟨21, _⟩ => ⟨S2x200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scoped0 : Ref sig .tc := ⟨.vmem, 19, rfl⟩
abbrev cc0_scoped2 : Ref sig .tc := ⟨.vmem, 20, rfl⟩
abbrev cc0_scoped4 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

def k0_off1 : Fin 1 → Nat :=
  let c0_i32_18_r0 : BitVec 32 := 0#32
  let c3_i32_r0 : BitVec 32 := 3#32
  let v21_r0 : BitVec 32 := Scalar.remui c0_i32_18_r0 c3_i32_r0
  ![v21_r0.toNat]
def k0_off2 : Fin 3 → Nat :=
  let c0_i32_18_r0 : BitVec 32 := 0#32
  let c3_i32_r0 : BitVec 32 := 3#32
  let v21_r0 : BitVec 32 := Scalar.remui c0_i32_18_r0 c3_i32_r0
  let c0_i32_19_r0 : BitVec 32 := 0#32
  let c0_i32_20_r0 : BitVec 32 := 0#32
  ![v21_r0.toNat, 0, 0]
def k0_cond1 : BitVec 1 :=
  let true_34_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c50_i32_r0 : BitVec 32 := 50#32
  let v8_r0 : BitVec 1 := Scalar.cmpi .eq v7_r0 c50_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_33_r0 : BitVec 32 := 0#32
  let v35_r0 : BitVec 1 := Scalar.cmpi .ne v10_r0 c0_i32_33_r0
  let v36_r0 : BitVec 1 := Scalar.andi true_34_r0 v35_r0
  let true_35_r0 : BitVec 1 := 1#1
  let v37_r0 : BitVec 1 := Scalar.andi v36_r0 true_35_r0
  let v38_r0 : BitVec 32 := Scalar.extui v37_r0
  let c0_i32_36_r0 : BitVec 32 := 0#32
  let v39_r0 : BitVec 1 := Scalar.cmpi .ne v38_r0 c0_i32_36_r0
  v39_r0

def k0_off3 : Fin 1 → Nat :=
  let c0_i32_23_r0 : BitVec 32 := 0#32
  let c1_i32_24_r0 : BitVec 32 := 1#32
  let v27_r0 : BitVec 32 := Scalar.addi c0_i32_23_r0 c1_i32_24_r0
  let c3_i32_80_r0 : BitVec 32 := 3#32
  let v83_r0 : BitVec 32 := Scalar.remui v27_r0 c3_i32_80_r0
  ![v83_r0.toNat]
def k0_off4 : Fin 3 → Nat :=
  let c0_i32_23_r0 : BitVec 32 := 0#32
  let c1_i32_24_r0 : BitVec 32 := 1#32
  let v27_r0 : BitVec 32 := Scalar.addi c0_i32_23_r0 c1_i32_24_r0
  let c3_i32_80_r0 : BitVec 32 := 3#32
  let v83_r0 : BitVec 32 := Scalar.remui v27_r0 c3_i32_80_r0
  let c0_i32_82_r0 : BitVec 32 := 0#32
  let c0_i32_83_r0 : BitVec 32 := 0#32
  ![v83_r0.toNat, 0, 0]
def k0_off5 : Fin 2 → Nat :=
  let c200_i32_81_r0 : BitVec 32 := 200#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c50_i32_r0 : BitVec 32 := 50#32
  let v8_r0 : BitVec 1 := Scalar.cmpi .eq v7_r0 c50_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v84_r0 : BitVec 32 := Scalar.muli c200_i32_81_r0 v10_r0
  let c0_i32_84_r0 : BitVec 32 := 0#32
  ![v84_r0.toNat, 0]
def k0_cond2 : BitVec 1 :=
  let true_39_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c50_i32_r0 : BitVec 32 := 50#32
  let v8_r0 : BitVec 1 := Scalar.cmpi .eq v7_r0 c50_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_38_r0 : BitVec 32 := 0#32
  let v42_r0 : BitVec 1 := Scalar.cmpi .ne v10_r0 c0_i32_38_r0
  let v43_r0 : BitVec 1 := Scalar.andi true_39_r0 v42_r0
  let true_40_r0 : BitVec 1 := 1#1
  let v44_r0 : BitVec 1 := Scalar.andi v43_r0 true_40_r0
  let v45_r0 : BitVec 32 := Scalar.extui v44_r0
  let c0_i32_41_r0 : BitVec 32 := 0#32
  let v46_r0 : BitVec 1 := Scalar.cmpi .ne v45_r0 c0_i32_41_r0
  v46_r0

def k0_off6 : Fin 1 → Nat :=
  let c0_i32_31_r0 : BitVec 32 := 0#32
  let c1_i32_32_r0 : BitVec 32 := 1#32
  let v34_r0 : BitVec 32 := Scalar.addi c0_i32_31_r0 c1_i32_32_r0
  let c3_i32_80_r0 : BitVec 32 := 3#32
  let v83_r0 : BitVec 32 := Scalar.remui v34_r0 c3_i32_80_r0
  ![v83_r0.toNat]
def k0_off7 : Fin 3 → Nat :=
  let c0_i32_31_r0 : BitVec 32 := 0#32
  let c1_i32_32_r0 : BitVec 32 := 1#32
  let v34_r0 : BitVec 32 := Scalar.addi c0_i32_31_r0 c1_i32_32_r0
  let c3_i32_80_r0 : BitVec 32 := 3#32
  let v83_r0 : BitVec 32 := Scalar.remui v34_r0 c3_i32_80_r0
  let c0_i32_82_r0 : BitVec 32 := 0#32
  let c0_i32_83_r0 : BitVec 32 := 0#32
  ![v83_r0.toNat, 0, 0]
def k0_off8 : Fin 2 → Nat :=
  let c200_i32_81_r0 : BitVec 32 := 200#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c50_i32_r0 : BitVec 32 := 50#32
  let v8_r0 : BitVec 1 := Scalar.cmpi .eq v7_r0 c50_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v84_r0 : BitVec 32 := Scalar.muli c200_i32_81_r0 v10_r0
  let c0_i32_84_r0 : BitVec 32 := 0#32
  ![v84_r0.toNat, 0]
@[reducible] def k0_t1_loop : Scf.Loop 32 :=
  let c0_i32_48_r0 : BitVec 32 := 0#32
  let c50_i32_49_r0 : BitVec 32 := 50#32
  let v49_r0 : BitVec 32 := Scalar.addi c0_i32_48_r0 c50_i32_49_r0
  let c1_i32_50_r0 : BitVec 32 := 1#32
  ⟨c0_i32_48_r0, v49_r0, c1_i32_50_r0⟩
def k0_off9 (arg23_r0 : BitVec 32) : Fin 1 → Nat :=
  let c3_i32_207_r0 : BitVec 32 := 3#32
  let v287_r0 : BitVec 32 := Scalar.remui arg23_r0 c3_i32_207_r0
  ![v287_r0.toNat]
def k0_cond3 (k0_t1 : Fin k0_t1_loop.trips) (arg29_r0 : BitVec 32) : BitVec 1 :=
  let true_89_r0 : BitVec 1 := 1#1
  let c1_i32_88_r0 : BitVec 32 := 1#32
  let v91_r0 : BitVec 32 := Scalar.addi arg29_r0 c1_i32_88_r0
  let v92_r0 : BitVec 32 := Scalar.select true_89_r0 v91_r0 arg29_r0
  let c50_i32_90_r0 : BitVec 32 := 50#32
  let v93_r0 : BitVec 1 := Scalar.cmpi .eq v92_r0 c50_i32_90_r0
  let c0_i32_91_r0 : BitVec 32 := 0#32
  let v94_r0 : BitVec 32 := Scalar.select v93_r0 c0_i32_91_r0 v92_r0
  let c0_i32_92_r0 : BitVec 32 := 0#32
  let v95_r0 : BitVec 32 := Scalar.addi v94_r0 c0_i32_92_r0
  let true_94_r0 : BitVec 1 := 1#1
  let c1_i32_93_r0 : BitVec 32 := 1#32
  let v96_r0 : BitVec 32 := Scalar.addi v94_r0 c1_i32_93_r0
  let v97_r0 : BitVec 32 := Scalar.select true_94_r0 v96_r0 v94_r0
  let c50_i32_95_r0 : BitVec 32 := 50#32
  let v98_r0 : BitVec 1 := Scalar.cmpi .eq v97_r0 c50_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v106_r0 : BitVec 1 := Scalar.cmpi .ne v95_r0 v100_r0
  let c0_i32_48_r0 : BitVec 32 := 0#32
  let c1_i32_50_r0 : BitVec 32 := 1#32
  let arg22_r0 : BitVec 32 := Scf.iv c0_i32_48_r0 c1_i32_50_r0 k0_t1
  let c48_i32_r0 : BitVec 32 := 48#32
  let v107_r0 : BitVec 1 := Scalar.cmpi .sge arg22_r0 c48_i32_r0
  let true_103_r0 : BitVec 1 := 1#1
  let v108_r0 : BitVec 1 := Scalar.xori v107_r0 true_103_r0
  let v109_r0 : BitVec 1 := Scalar.andi v106_r0 v108_r0
  let true_104_r0 : BitVec 1 := 1#1
  let v110_r0 : BitVec 1 := Scalar.andi v109_r0 true_104_r0
  let v111_r0 : BitVec 32 := Scalar.extui v110_r0
  let c0_i32_105_r0 : BitVec 32 := 0#32
  let v112_r0 : BitVec 1 := Scalar.cmpi .ne v111_r0 c0_i32_105_r0
  v112_r0

def k0_off10 (arg23_r0 : BitVec 32) : Fin 3 → Nat :=
  let c3_i32_207_r0 : BitVec 32 := 3#32
  let v287_r0 : BitVec 32 := Scalar.remui arg23_r0 c3_i32_207_r0
  let c0_i32_209_r0 : BitVec 32 := 0#32
  let c0_i32_210_r0 : BitVec 32 := 0#32
  ![v287_r0.toNat, 0, 0]
def k0_off11 (arg29_r0 : BitVec 32) : Fin 2 → Nat :=
  let c200_i32_208_r0 : BitVec 32 := 200#32
  let true_94_r0 : BitVec 1 := 1#1
  let true_89_r0 : BitVec 1 := 1#1
  let c1_i32_88_r0 : BitVec 32 := 1#32
  let v91_r0 : BitVec 32 := Scalar.addi arg29_r0 c1_i32_88_r0
  let v92_r0 : BitVec 32 := Scalar.select true_89_r0 v91_r0 arg29_r0
  let c50_i32_90_r0 : BitVec 32 := 50#32
  let v93_r0 : BitVec 1 := Scalar.cmpi .eq v92_r0 c50_i32_90_r0
  let c0_i32_91_r0 : BitVec 32 := 0#32
  let v94_r0 : BitVec 32 := Scalar.select v93_r0 c0_i32_91_r0 v92_r0
  let c1_i32_93_r0 : BitVec 32 := 1#32
  let v96_r0 : BitVec 32 := Scalar.addi v94_r0 c1_i32_93_r0
  let v97_r0 : BitVec 32 := Scalar.select true_94_r0 v96_r0 v94_r0
  let c50_i32_95_r0 : BitVec 32 := 50#32
  let v98_r0 : BitVec 1 := Scalar.cmpi .eq v97_r0 c50_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v288_r0 : BitVec 32 := Scalar.muli c200_i32_208_r0 v100_r0
  let c0_i32_211_r0 : BitVec 32 := 0#32
  ![v288_r0.toNat, 0]
def k0_off12 (arg25_r0 : BitVec 32) : Fin 1 → Nat :=
  let c3_i32_207_r0 : BitVec 32 := 3#32
  let v287_r0 : BitVec 32 := Scalar.remui arg25_r0 c3_i32_207_r0
  ![v287_r0.toNat]
def k0_cond4 (k0_t1 : Fin k0_t1_loop.trips) (arg29_r0 : BitVec 32) : BitVec 1 :=
  let true_89_r0 : BitVec 1 := 1#1
  let c1_i32_88_r0 : BitVec 32 := 1#32
  let v91_r0 : BitVec 32 := Scalar.addi arg29_r0 c1_i32_88_r0
  let v92_r0 : BitVec 32 := Scalar.select true_89_r0 v91_r0 arg29_r0
  let c50_i32_90_r0 : BitVec 32 := 50#32
  let v93_r0 : BitVec 1 := Scalar.cmpi .eq v92_r0 c50_i32_90_r0
  let c0_i32_91_r0 : BitVec 32 := 0#32
  let v94_r0 : BitVec 32 := Scalar.select v93_r0 c0_i32_91_r0 v92_r0
  let c0_i32_92_r0 : BitVec 32 := 0#32
  let v95_r0 : BitVec 32 := Scalar.addi v94_r0 c0_i32_92_r0
  let true_94_r0 : BitVec 1 := 1#1
  let c1_i32_93_r0 : BitVec 32 := 1#32
  let v96_r0 : BitVec 32 := Scalar.addi v94_r0 c1_i32_93_r0
  let v97_r0 : BitVec 32 := Scalar.select true_94_r0 v96_r0 v94_r0
  let c50_i32_95_r0 : BitVec 32 := 50#32
  let v98_r0 : BitVec 1 := Scalar.cmpi .eq v97_r0 c50_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v116_r0 : BitVec 1 := Scalar.cmpi .ne v95_r0 v100_r0
  let c0_i32_48_r0 : BitVec 32 := 0#32
  let c1_i32_50_r0 : BitVec 32 := 1#32
  let arg22_r0 : BitVec 32 := Scf.iv c0_i32_48_r0 c1_i32_50_r0 k0_t1
  let c48_i32_108_r0 : BitVec 32 := 48#32
  let v117_r0 : BitVec 1 := Scalar.cmpi .sge arg22_r0 c48_i32_108_r0
  let true_109_r0 : BitVec 1 := 1#1
  let v118_r0 : BitVec 1 := Scalar.xori v117_r0 true_109_r0
  let v119_r0 : BitVec 1 := Scalar.andi v116_r0 v118_r0
  let true_110_r0 : BitVec 1 := 1#1
  let v120_r0 : BitVec 1 := Scalar.andi v119_r0 true_110_r0
  let v121_r0 : BitVec 32 := Scalar.extui v120_r0
  let c0_i32_111_r0 : BitVec 32 := 0#32
  let v122_r0 : BitVec 1 := Scalar.cmpi .ne v121_r0 c0_i32_111_r0
  v122_r0

def k0_off13 (arg25_r0 : BitVec 32) : Fin 3 → Nat :=
  let c3_i32_207_r0 : BitVec 32 := 3#32
  let v287_r0 : BitVec 32 := Scalar.remui arg25_r0 c3_i32_207_r0
  let c0_i32_209_r0 : BitVec 32 := 0#32
  let c0_i32_210_r0 : BitVec 32 := 0#32
  ![v287_r0.toNat, 0, 0]
def k0_off14 (arg29_r0 : BitVec 32) : Fin 2 → Nat :=
  let c200_i32_208_r0 : BitVec 32 := 200#32
  let true_94_r0 : BitVec 1 := 1#1
  let true_89_r0 : BitVec 1 := 1#1
  let c1_i32_88_r0 : BitVec 32 := 1#32
  let v91_r0 : BitVec 32 := Scalar.addi arg29_r0 c1_i32_88_r0
  let v92_r0 : BitVec 32 := Scalar.select true_89_r0 v91_r0 arg29_r0
  let c50_i32_90_r0 : BitVec 32 := 50#32
  let v93_r0 : BitVec 1 := Scalar.cmpi .eq v92_r0 c50_i32_90_r0
  let c0_i32_91_r0 : BitVec 32 := 0#32
  let v94_r0 : BitVec 32 := Scalar.select v93_r0 c0_i32_91_r0 v92_r0
  let c1_i32_93_r0 : BitVec 32 := 1#32
  let v96_r0 : BitVec 32 := Scalar.addi v94_r0 c1_i32_93_r0
  let v97_r0 : BitVec 32 := Scalar.select true_94_r0 v96_r0 v94_r0
  let c50_i32_95_r0 : BitVec 32 := 50#32
  let v98_r0 : BitVec 1 := Scalar.cmpi .eq v97_r0 c50_i32_95_r0
  let c0_i32_96_r0 : BitVec 32 := 0#32
  let v99_r0 : BitVec 32 := Scalar.select v98_r0 c0_i32_96_r0 v97_r0
  let c0_i32_97_r0 : BitVec 32 := 0#32
  let v100_r0 : BitVec 32 := Scalar.addi v99_r0 c0_i32_97_r0
  let v288_r0 : BitVec 32 := Scalar.muli c200_i32_208_r0 v100_r0
  let c0_i32_211_r0 : BitVec 32 := 0#32
  ![v288_r0.toNat, 0]
def k0_off15 (arg24_r0 : BitVec 32) : Fin 1 → Nat :=
  let c3_i32_208_r0 : BitVec 32 := 3#32
  let v288_r0 : BitVec 32 := Scalar.remui arg24_r0 c3_i32_208_r0
  ![v288_r0.toNat]
def k0_cond5 (k0_t1 : Fin k0_t1_loop.trips) (arg29_r0 : BitVec 32) : BitVec 1 :=
  let c0_i32_82_r0 : BitVec 32 := 0#32
  let v85_r0 : BitVec 32 := Scalar.addi arg29_r0 c0_i32_82_r0
  let true_84_r0 : BitVec 1 := 1#1
  let c1_i32_83_r0 : BitVec 32 := 1#32
  let v86_r0 : BitVec 32 := Scalar.subi arg29_r0 c1_i32_83_r0
  let v87_r0 : BitVec 32 := Scalar.select true_84_r0 v86_r0 arg29_r0
  let c_m1_i32_85_r0 : BitVec 32 := 4294967295#32
  let v88_r0 : BitVec 1 := Scalar.cmpi .eq v87_r0 c_m1_i32_85_r0
  let c49_i32_86_r0 : BitVec 32 := 49#32
  let v89_r0 : BitVec 32 := Scalar.select v88_r0 c49_i32_86_r0 v87_r0
  let c0_i32_87_r0 : BitVec 32 := 0#32
  let v90_r0 : BitVec 32 := Scalar.addi v89_r0 c0_i32_87_r0
  let v130_r0 : BitVec 1 := Scalar.cmpi .ne v85_r0 v90_r0
  let c0_i32_48_r0 : BitVec 32 := 0#32
  let c1_i32_50_r0 : BitVec 32 := 1#32
  let arg22_r0 : BitVec 32 := Scf.iv c0_i32_48_r0 c1_i32_50_r0 k0_t1
  let c0_i32_80_r0 : BitVec 32 := 0#32
  let v83_r0 : BitVec 1 := Scalar.cmpi .eq arg22_r0 c0_i32_80_r0
  let v131_r0 : BitVec 1 := Scalar.ori v130_r0 v83_r0
  let c0_i32_116_r0 : BitVec 32 := 0#32
  let v132_r0 : BitVec 1 := Scalar.cmpi .sge arg22_r0 c0_i32_116_r0
  let v133_r0 : BitVec 1 := Scalar.andi v131_r0 v132_r0
  let v134_r0 : BitVec 32 := Scalar.extui v133_r0
  let c0_i32_117_r0 : BitVec 32 := 0#32
  let v135_r0 : BitVec 1 := Scalar.cmpi .ne v134_r0 c0_i32_117_r0
  v135_r0

def k0_off16 (arg24_r0 : BitVec 32) : Fin 3 → Nat :=
  let c3_i32_208_r0 : BitVec 32 := 3#32
  let v288_r0 : BitVec 32 := Scalar.remui arg24_r0 c3_i32_208_r0
  let c0_i32_209_r0 : BitVec 32 := 0#32
  let c0_i32_210_r0 : BitVec 32 := 0#32
  ![v288_r0.toNat, 0, 0]
def k0_off17 (arg29_r0 : BitVec 32) : Fin 2 → Nat :=
  let c200_i32_207_r0 : BitVec 32 := 200#32
  let c0_i32_82_r0 : BitVec 32 := 0#32
  let v85_r0 : BitVec 32 := Scalar.addi arg29_r0 c0_i32_82_r0
  let v287_r0 : BitVec 32 := Scalar.muli c200_i32_207_r0 v85_r0
  let c0_i32_211_r0 : BitVec 32 := 0#32
  ![v287_r0.toNat, 0]
def k0_off18 (arg26_r0 : BitVec 32) : Fin 1 → Nat :=
  let c3_i32_208_r0 : BitVec 32 := 3#32
  let v288_r0 : BitVec 32 := Scalar.remui arg26_r0 c3_i32_208_r0
  ![v288_r0.toNat]
def k0_cond6 (k0_t1 : Fin k0_t1_loop.trips) (arg29_r0 : BitVec 32) : BitVec 1 :=
  let c0_i32_82_r0 : BitVec 32 := 0#32
  let v85_r0 : BitVec 32 := Scalar.addi arg29_r0 c0_i32_82_r0
  let true_84_r0 : BitVec 1 := 1#1
  let c1_i32_83_r0 : BitVec 32 := 1#32
  let v86_r0 : BitVec 32 := Scalar.subi arg29_r0 c1_i32_83_r0
  let v87_r0 : BitVec 32 := Scalar.select true_84_r0 v86_r0 arg29_r0
  let c_m1_i32_85_r0 : BitVec 32 := 4294967295#32
  let v88_r0 : BitVec 1 := Scalar.cmpi .eq v87_r0 c_m1_i32_85_r0
  let c49_i32_86_r0 : BitVec 32 := 49#32
  let v89_r0 : BitVec 32 := Scalar.select v88_r0 c49_i32_86_r0 v87_r0
  let c0_i32_87_r0 : BitVec 32 := 0#32
  let v90_r0 : BitVec 32 := Scalar.addi v89_r0 c0_i32_87_r0
  let v136_r0 : BitVec 1 := Scalar.cmpi .ne v85_r0 v90_r0
  let c0_i32_48_r0 : BitVec 32 := 0#32
  let c1_i32_50_r0 : BitVec 32 := 1#32
  let arg22_r0 : BitVec 32 := Scf.iv c0_i32_48_r0 c1_i32_50_r0 k0_t1
  let c0_i32_80_r0 : BitVec 32 := 0#32
  let v83_r0 : BitVec 1 := Scalar.cmpi .eq arg22_r0 c0_i32_80_r0
  let v137_r0 : BitVec 1 := Scalar.ori v136_r0 v83_r0
  let c0_i32_118_r0 : BitVec 32 := 0#32
  let v138_r0 : BitVec 1 := Scalar.cmpi .sge arg22_r0 c0_i32_118_r0
  let v139_r0 : BitVec 1 := Scalar.andi v137_r0 v138_r0
  let v140_r0 : BitVec 32 := Scalar.extui v139_r0
  let c0_i32_119_r0 : BitVec 32 := 0#32
  let v141_r0 : BitVec 1 := Scalar.cmpi .ne v140_r0 c0_i32_119_r0
  v141_r0

def k0_off19 (arg26_r0 : BitVec 32) : Fin 3 → Nat :=
  let c3_i32_208_r0 : BitVec 32 := 3#32
  let v288_r0 : BitVec 32 := Scalar.remui arg26_r0 c3_i32_208_r0
  let c0_i32_209_r0 : BitVec 32 := 0#32
  let c0_i32_210_r0 : BitVec 32 := 0#32
  ![v288_r0.toNat, 0, 0]
def k0_off20 (arg29_r0 : BitVec 32) : Fin 2 → Nat :=
  let c200_i32_207_r0 : BitVec 32 := 200#32
  let c0_i32_82_r0 : BitVec 32 := 0#32
  let v85_r0 : BitVec 32 := Scalar.addi arg29_r0 c0_i32_82_r0
  let v287_r0 : BitVec 32 := Scalar.muli c200_i32_207_r0 v85_r0
  let c0_i32_211_r0 : BitVec 32 := 0#32
  ![v287_r0.toNat, 0]
def k0_off21 (arg24_r0 : BitVec 32) : Fin 3 → Nat :=
  let c3_i32_122_r0 : BitVec 32 := 3#32
  let v148_r0 : BitVec 32 := Scalar.remui arg24_r0 c3_i32_122_r0
  let v154_r0 : Index := Scalar.indexCast v148_r0
  let c0_126_r0 : Index := 0#32
  let c0_127_r0 : Index := 0#32
  ![v154_r0.toNat, 0, 0]

def k0_chk2 (arg24_r0 : BitVec 32) : Prop :=
  (∀ a, (k0_off21 arg24_r0) a + S1x200x10000.size a ≤ S3x200x10000.size a)
theorem k0_off21_inb : ∀ (arg24_r0 : BitVec 32) (k0_hw2 : k0_chk2 arg24_r0), ∀ a, (k0_off21 arg24_r0) a + S1x200x10000.size a ≤ S3x200x10000.size a := fun arg24_r0 k0_hw2 => k0_hw2

def k0_off22 (arg26_r0 : BitVec 32) : Fin 3 → Nat :=
  let c3_i32_123_r0 : BitVec 32 := 3#32
  let v149_r0 : BitVec 32 := Scalar.remui arg26_r0 c3_i32_123_r0
  let v166_r0 : Index := Scalar.indexCast v149_r0
  let c0_134_r0 : Index := 0#32
  let c0_135_r0 : Index := 0#32
  ![v166_r0.toNat, 0, 0]

def k0_chk3 (arg26_r0 : BitVec 32) : Prop :=
  (∀ a, (k0_off22 arg26_r0) a + S1x200x10000.size a ≤ S3x200x10000.size a)
theorem k0_off22_inb : ∀ (arg26_r0 : BitVec 32) (k0_hw3 : k0_chk3 arg26_r0), ∀ a, (k0_off22 arg26_r0) a + S1x200x10000.size a ≤ S3x200x10000.size a := fun arg26_r0 k0_hw3 => k0_hw3

def k0_off23 (arg27_r0 : BitVec 32) : Fin 3 → Nat :=
  let c2_i32_124_r0 : BitVec 32 := 2#32
  let v150_r0 : BitVec 32 := Scalar.remui arg27_r0 c2_i32_124_r0
  let v234_r0 : Index := Scalar.indexCast v150_r0
  let c0_183_r0 : Index := 0#32
  let c0_184_r0 : Index := 0#32
  ![v234_r0.toNat, 0, 0]

def k0_chk4 (arg27_r0 : BitVec 32) : Prop :=
  (∀ a, (k0_off23 arg27_r0) a + S1x200x128.size a ≤ S2x200x128.size a)
theorem k0_off23_inb : ∀ (arg27_r0 : BitVec 32) (k0_hw4 : k0_chk4 arg27_r0), ∀ a, (k0_off23 arg27_r0) a + S1x200x128.size a ≤ S2x200x128.size a := fun arg27_r0 k0_hw4 => k0_hw4

def k0_off24 (arg27_r0 : BitVec 32) : Fin 1 → Nat :=
  let c2_i32_207_r0 : BitVec 32 := 2#32
  let v287_r0 : BitVec 32 := Scalar.remui arg27_r0 c2_i32_207_r0
  ![v287_r0.toNat]
def k0_cond10 (k0_t1 : Fin k0_t1_loop.trips) (arg29_r0 : BitVec 32) : BitVec 1 :=
  let c0_i32_82_r0 : BitVec 32 := 0#32
  let v85_r0 : BitVec 32 := Scalar.addi arg29_r0 c0_i32_82_r0
  let true_89_r0 : BitVec 1 := 1#1
  let c1_i32_88_r0 : BitVec 32 := 1#32
  let v91_r0 : BitVec 32 := Scalar.addi arg29_r0 c1_i32_88_r0
  let v92_r0 : BitVec 32 := Scalar.select true_89_r0 v91_r0 arg29_r0
  let c50_i32_90_r0 : BitVec 32 := 50#32
  let v93_r0 : BitVec 1 := Scalar.cmpi .eq v92_r0 c50_i32_90_r0
  let c0_i32_91_r0 : BitVec 32 := 0#32
  let v94_r0 : BitVec 32 := Scalar.select v93_r0 c0_i32_91_r0 v92_r0
  let c0_i32_92_r0 : BitVec 32 := 0#32
  let v95_r0 : BitVec 32 := Scalar.addi v94_r0 c0_i32_92_r0
  let v248_r0 : BitVec 1 := Scalar.cmpi .ne v85_r0 v95_r0
  let c0_i32_48_r0 : BitVec 32 := 0#32
  let c1_i32_50_r0 : BitVec 32 := 1#32
  let arg22_r0 : BitVec 32 := Scf.iv c0_i32_48_r0 c1_i32_50_r0 k0_t1
  let c49_i32_81_r0 : BitVec 32 := 49#32
  let v84_r0 : BitVec 1 := Scalar.cmpi .eq arg22_r0 c49_i32_81_r0
  let v249_r0 : BitVec 1 := Scalar.ori v248_r0 v84_r0
  let v250_r0 : BitVec 32 := Scalar.extui v249_r0
  let c0_i32_188_r0 : BitVec 32 := 0#32
  let v251_r0 : BitVec 1 := Scalar.cmpi .ne v250_r0 c0_i32_188_r0
  v251_r0

def k0_off25 (arg29_r0 : BitVec 32) : Fin 2 → Nat :=
  let c200_i32_208_r0 : BitVec 32 := 200#32
  let c0_i32_82_r0 : BitVec 32 := 0#32
  let v85_r0 : BitVec 32 := Scalar.addi arg29_r0 c0_i32_82_r0
  let v288_r0 : BitVec 32 := Scalar.muli c200_i32_208_r0 v85_r0
  let c0_i32_209_r0 : BitVec 32 := 0#32
  ![v288_r0.toNat, 0]
def k0_off26 (arg27_r0 : BitVec 32) : Fin 3 → Nat :=
  let c2_i32_207_r0 : BitVec 32 := 2#32
  let v287_r0 : BitVec 32 := Scalar.remui arg27_r0 c2_i32_207_r0
  let c0_i32_210_r0 : BitVec 32 := 0#32
  let c0_i32_211_r0 : BitVec 32 := 0#32
  ![v287_r0.toNat, 0, 0]
def k0_off27 (arg28_r0 : BitVec 32) : Fin 1 → Nat :=
  let c2_i32_207_r0 : BitVec 32 := 2#32
  let v287_r0 : BitVec 32 := Scalar.remui arg28_r0 c2_i32_207_r0
  ![v287_r0.toNat]
def k0_cond13 (k0_t1 : Fin k0_t1_loop.trips) (arg29_r0 : BitVec 32) : BitVec 1 :=
  let c0_i32_82_r0 : BitVec 32 := 0#32
  let v85_r0 : BitVec 32 := Scalar.addi arg29_r0 c0_i32_82_r0
  let true_84_r0 : BitVec 1 := 1#1
  let c1_i32_83_r0 : BitVec 32 := 1#32
  let v86_r0 : BitVec 32 := Scalar.subi arg29_r0 c1_i32_83_r0
  let v87_r0 : BitVec 32 := Scalar.select true_84_r0 v86_r0 arg29_r0
  let c_m1_i32_85_r0 : BitVec 32 := 4294967295#32
  let v88_r0 : BitVec 1 := Scalar.cmpi .eq v87_r0 c_m1_i32_85_r0
  let c49_i32_86_r0 : BitVec 32 := 49#32
  let v89_r0 : BitVec 32 := Scalar.select v88_r0 c49_i32_86_r0 v87_r0
  let c0_i32_87_r0 : BitVec 32 := 0#32
  let v90_r0 : BitVec 32 := Scalar.addi v89_r0 c0_i32_87_r0
  let v267_r0 : BitVec 1 := Scalar.cmpi .ne v85_r0 v90_r0
  let c0_i32_48_r0 : BitVec 32 := 0#32
  let c1_i32_50_r0 : BitVec 32 := 1#32
  let arg22_r0 : BitVec 32 := Scf.iv c0_i32_48_r0 c1_i32_50_r0 k0_t1
  let c0_i32_80_r0 : BitVec 32 := 0#32
  let v83_r0 : BitVec 1 := Scalar.cmpi .eq arg22_r0 c0_i32_80_r0
  let true_197_r0 : BitVec 1 := 1#1
  let v268_r0 : BitVec 1 := Scalar.xori v83_r0 true_197_r0
  let v269_r0 : BitVec 1 := Scalar.andi v267_r0 v268_r0
  let v270_r0 : BitVec 32 := Scalar.extui v269_r0
  let c0_i32_198_r0 : BitVec 32 := 0#32
  let v271_r0 : BitVec 1 := Scalar.cmpi .ne v270_r0 c0_i32_198_r0
  v271_r0

def k0_off28 (arg29_r0 : BitVec 32) : Fin 2 → Nat :=
  let c200_i32_208_r0 : BitVec 32 := 200#32
  let true_84_r0 : BitVec 1 := 1#1
  let c1_i32_83_r0 : BitVec 32 := 1#32
  let v86_r0 : BitVec 32 := Scalar.subi arg29_r0 c1_i32_83_r0
  let v87_r0 : BitVec 32 := Scalar.select true_84_r0 v86_r0 arg29_r0
  let c_m1_i32_85_r0 : BitVec 32 := 4294967295#32
  let v88_r0 : BitVec 1 := Scalar.cmpi .eq v87_r0 c_m1_i32_85_r0
  let c49_i32_86_r0 : BitVec 32 := 49#32
  let v89_r0 : BitVec 32 := Scalar.select v88_r0 c49_i32_86_r0 v87_r0
  let c0_i32_87_r0 : BitVec 32 := 0#32
  let v90_r0 : BitVec 32 := Scalar.addi v89_r0 c0_i32_87_r0
  let v288_r0 : BitVec 32 := Scalar.muli c200_i32_208_r0 v90_r0
  let c0_i32_209_r0 : BitVec 32 := 0#32
  ![v288_r0.toNat, 0]
def k0_off29 (arg28_r0 : BitVec 32) : Fin 3 → Nat :=
  let c2_i32_207_r0 : BitVec 32 := 2#32
  let v287_r0 : BitVec 32 := Scalar.remui arg28_r0 c2_i32_207_r0
  let c0_i32_210_r0 : BitVec 32 := 0#32
  let c0_i32_211_r0 : BitVec 32 := 0#32
  ![v287_r0.toNat, 0, 0]

def k0_chk1 (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) : Prop :=
  (∀ (k0_h3 : k0_cond3 k0_t1 arg29_r0 = 1#1), ∀ a, (k0_off9 arg23_r0) a + S1.size a ≤ S3.size a) ∧
  (∀ (k0_h3 : k0_cond3 k0_t1 arg29_r0 = 1#1), ∀ a, (k0_off10 arg23_r0) a + S1x200x10000.size a ≤ S3x200x10000.size a) ∧
  (∀ (k0_h3 : k0_cond3 k0_t1 arg29_r0 = 1#1), ∀ a, (k0_off11 arg29_r0) a + S200x10000.size a ≤ S10000x10000.size a) ∧
  (∀ (k0_h4 : k0_cond4 k0_t1 arg29_r0 = 1#1), ∀ a, (k0_off12 arg25_r0) a + S1.size a ≤ S3.size a) ∧
  (∀ (k0_h4 : k0_cond4 k0_t1 arg29_r0 = 1#1), ∀ a, (k0_off13 arg25_r0) a + S1x200x10000.size a ≤ S3x200x10000.size a) ∧
  (∀ (k0_h4 : k0_cond4 k0_t1 arg29_r0 = 1#1), ∀ a, (k0_off14 arg29_r0) a + S200x10000.size a ≤ S10000x10000.size a) ∧
  (∀ (k0_h5 : k0_cond5 k0_t1 arg29_r0 = 1#1), ∀ a, (k0_off15 arg24_r0) a + S1.size a ≤ S3.size a) ∧
  (∀ (k0_h5 : k0_cond5 k0_t1 arg29_r0 = 1#1), ∀ a, (k0_off16 arg24_r0) a + S1x200x10000.size a ≤ S3x200x10000.size a) ∧
  (∀ (k0_h5 : k0_cond5 k0_t1 arg29_r0 = 1#1), ∀ a, (k0_off17 arg29_r0) a + S200x10000.size a ≤ S10000x10000.size a) ∧
  (∀ (k0_h6 : k0_cond6 k0_t1 arg29_r0 = 1#1), ∀ a, (k0_off18 arg26_r0) a + S1.size a ≤ S3.size a) ∧
  (∀ (k0_h6 : k0_cond6 k0_t1 arg29_r0 = 1#1), ∀ a, (k0_off19 arg26_r0) a + S1x200x10000.size a ≤ S3x200x10000.size a) ∧
  (∀ (k0_h6 : k0_cond6 k0_t1 arg29_r0 = 1#1), ∀ a, (k0_off20 arg29_r0) a + S200x10000.size a ≤ S10000x10000.size a) ∧
  (∀ (k0_h10 : k0_cond10 k0_t1 arg29_r0 = 1#1), ∀ a, (k0_off24 arg27_r0) a + S1.size a ≤ S2.size a) ∧
  (∀ (k0_h10 : k0_cond10 k0_t1 arg29_r0 = 1#1), ∀ a, (k0_off25 arg29_r0) a + S200x128.size a ≤ S10000x128.size a) ∧
  (∀ (k0_h10 : k0_cond10 k0_t1 arg29_r0 = 1#1), ∀ a, (k0_off26 arg27_r0) a + S1x200x128.size a ≤ S2x200x128.size a) ∧
  (∀ (k0_h13 : k0_cond13 k0_t1 arg29_r0 = 1#1), ∀ a, (k0_off27 arg28_r0) a + S1.size a ≤ S2.size a) ∧
  (∀ (k0_h13 : k0_cond13 k0_t1 arg29_r0 = 1#1), ∀ a, (k0_off28 arg29_r0) a + S200x128.size a ≤ S10000x128.size a) ∧
  (∀ (k0_h13 : k0_cond13 k0_t1 arg29_r0 = 1#1), ∀ a, (k0_off29 arg28_r0) a + S1x200x128.size a ≤ S2x200x128.size a)
theorem k0_off9_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h3 : k0_cond3 k0_t1 arg29_r0 = 1#1), ∀ a, (k0_off9 arg23_r0) a + S1.size a ≤ S3.size a := fun k0_t1 arg23_r0 arg24_r0 arg25_r0 arg26_r0 arg27_r0 arg28_r0 arg29_r0 k0_hw1 k0_h3 => k0_hw1.1 k0_h3
theorem k0_off10_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h3 : k0_cond3 k0_t1 arg29_r0 = 1#1), ∀ a, (k0_off10 arg23_r0) a + S1x200x10000.size a ≤ S3x200x10000.size a := fun k0_t1 arg23_r0 arg24_r0 arg25_r0 arg26_r0 arg27_r0 arg28_r0 arg29_r0 k0_hw1 k0_h3 => k0_hw1.2.1 k0_h3
theorem k0_off11_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h3 : k0_cond3 k0_t1 arg29_r0 = 1#1), ∀ a, (k0_off11 arg29_r0) a + S200x10000.size a ≤ S10000x10000.size a := fun k0_t1 arg23_r0 arg24_r0 arg25_r0 arg26_r0 arg27_r0 arg28_r0 arg29_r0 k0_hw1 k0_h3 => k0_hw1.2.2.1 k0_h3
theorem k0_off12_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h4 : k0_cond4 k0_t1 arg29_r0 = 1#1), ∀ a, (k0_off12 arg25_r0) a + S1.size a ≤ S3.size a := fun k0_t1 arg23_r0 arg24_r0 arg25_r0 arg26_r0 arg27_r0 arg28_r0 arg29_r0 k0_hw1 k0_h4 => k0_hw1.2.2.2.1 k0_h4
theorem k0_off13_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h4 : k0_cond4 k0_t1 arg29_r0 = 1#1), ∀ a, (k0_off13 arg25_r0) a + S1x200x10000.size a ≤ S3x200x10000.size a := fun k0_t1 arg23_r0 arg24_r0 arg25_r0 arg26_r0 arg27_r0 arg28_r0 arg29_r0 k0_hw1 k0_h4 => k0_hw1.2.2.2.2.1 k0_h4
theorem k0_off14_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h4 : k0_cond4 k0_t1 arg29_r0 = 1#1), ∀ a, (k0_off14 arg29_r0) a + S200x10000.size a ≤ S10000x10000.size a := fun k0_t1 arg23_r0 arg24_r0 arg25_r0 arg26_r0 arg27_r0 arg28_r0 arg29_r0 k0_hw1 k0_h4 => k0_hw1.2.2.2.2.2.1 k0_h4
theorem k0_off15_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h5 : k0_cond5 k0_t1 arg29_r0 = 1#1), ∀ a, (k0_off15 arg24_r0) a + S1.size a ≤ S3.size a := fun k0_t1 arg23_r0 arg24_r0 arg25_r0 arg26_r0 arg27_r0 arg28_r0 arg29_r0 k0_hw1 k0_h5 => k0_hw1.2.2.2.2.2.2.1 k0_h5
theorem k0_off16_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h5 : k0_cond5 k0_t1 arg29_r0 = 1#1), ∀ a, (k0_off16 arg24_r0) a + S1x200x10000.size a ≤ S3x200x10000.size a := fun k0_t1 arg23_r0 arg24_r0 arg25_r0 arg26_r0 arg27_r0 arg28_r0 arg29_r0 k0_hw1 k0_h5 => k0_hw1.2.2.2.2.2.2.2.1 k0_h5
theorem k0_off17_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h5 : k0_cond5 k0_t1 arg29_r0 = 1#1), ∀ a, (k0_off17 arg29_r0) a + S200x10000.size a ≤ S10000x10000.size a := fun k0_t1 arg23_r0 arg24_r0 arg25_r0 arg26_r0 arg27_r0 arg28_r0 arg29_r0 k0_hw1 k0_h5 => k0_hw1.2.2.2.2.2.2.2.2.1 k0_h5
theorem k0_off18_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h6 : k0_cond6 k0_t1 arg29_r0 = 1#1), ∀ a, (k0_off18 arg26_r0) a + S1.size a ≤ S3.size a := fun k0_t1 arg23_r0 arg24_r0 arg25_r0 arg26_r0 arg27_r0 arg28_r0 arg29_r0 k0_hw1 k0_h6 => k0_hw1.2.2.2.2.2.2.2.2.2.1 k0_h6
theorem k0_off19_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h6 : k0_cond6 k0_t1 arg29_r0 = 1#1), ∀ a, (k0_off19 arg26_r0) a + S1x200x10000.size a ≤ S3x200x10000.size a := fun k0_t1 arg23_r0 arg24_r0 arg25_r0 arg26_r0 arg27_r0 arg28_r0 arg29_r0 k0_hw1 k0_h6 => k0_hw1.2.2.2.2.2.2.2.2.2.2.1 k0_h6
theorem k0_off20_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h6 : k0_cond6 k0_t1 arg29_r0 = 1#1), ∀ a, (k0_off20 arg29_r0) a + S200x10000.size a ≤ S10000x10000.size a := fun k0_t1 arg23_r0 arg24_r0 arg25_r0 arg26_r0 arg27_r0 arg28_r0 arg29_r0 k0_hw1 k0_h6 => k0_hw1.2.2.2.2.2.2.2.2.2.2.2.1 k0_h6
theorem k0_off24_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h10 : k0_cond10 k0_t1 arg29_r0 = 1#1), ∀ a, (k0_off24 arg27_r0) a + S1.size a ≤ S2.size a := fun k0_t1 arg23_r0 arg24_r0 arg25_r0 arg26_r0 arg27_r0 arg28_r0 arg29_r0 k0_hw1 k0_h10 => k0_hw1.2.2.2.2.2.2.2.2.2.2.2.2.1 k0_h10
theorem k0_off25_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h10 : k0_cond10 k0_t1 arg29_r0 = 1#1), ∀ a, (k0_off25 arg29_r0) a + S200x128.size a ≤ S10000x128.size a := fun k0_t1 arg23_r0 arg24_r0 arg25_r0 arg26_r0 arg27_r0 arg28_r0 arg29_r0 k0_hw1 k0_h10 => k0_hw1.2.2.2.2.2.2.2.2.2.2.2.2.2.1 k0_h10
theorem k0_off26_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h10 : k0_cond10 k0_t1 arg29_r0 = 1#1), ∀ a, (k0_off26 arg27_r0) a + S1x200x128.size a ≤ S2x200x128.size a := fun k0_t1 arg23_r0 arg24_r0 arg25_r0 arg26_r0 arg27_r0 arg28_r0 arg29_r0 k0_hw1 k0_h10 => k0_hw1.2.2.2.2.2.2.2.2.2.2.2.2.2.2.1 k0_h10
theorem k0_off27_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h13 : k0_cond13 k0_t1 arg29_r0 = 1#1), ∀ a, (k0_off27 arg28_r0) a + S1.size a ≤ S2.size a := fun k0_t1 arg23_r0 arg24_r0 arg25_r0 arg26_r0 arg27_r0 arg28_r0 arg29_r0 k0_hw1 k0_h13 => k0_hw1.2.2.2.2.2.2.2.2.2.2.2.2.2.2.2.1 k0_h13
theorem k0_off28_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h13 : k0_cond13 k0_t1 arg29_r0 = 1#1), ∀ a, (k0_off28 arg29_r0) a + S200x128.size a ≤ S10000x128.size a := fun k0_t1 arg23_r0 arg24_r0 arg25_r0 arg26_r0 arg27_r0 arg28_r0 arg29_r0 k0_hw1 k0_h13 => k0_hw1.2.2.2.2.2.2.2.2.2.2.2.2.2.2.2.2.1 k0_h13
theorem k0_off29_inb : ∀ (k0_t1 : Fin k0_t1_loop.trips) (arg23_r0 : BitVec 32) (arg24_r0 : BitVec 32) (arg25_r0 : BitVec 32) (arg26_r0 : BitVec 32) (arg27_r0 : BitVec 32) (arg28_r0 : BitVec 32) (arg29_r0 : BitVec 32) (k0_hw1 : k0_chk1 k0_t1 arg23_r0 arg24_r0 arg25_r0 arg26_r0 arg27_r0 arg28_r0 arg29_r0), ∀ (k0_h13 : k0_cond13 k0_t1 arg29_r0 = 1#1), ∀ a, (k0_off29 arg28_r0) a + S1x200x128.size a ≤ S2x200x128.size a := fun k0_t1 arg23_r0 arg24_r0 arg25_r0 arg26_r0 arg27_r0 arg28_r0 arg29_r0 k0_hw1 k0_h13 => k0_hw1.2.2.2.2.2.2.2.2.2.2.2.2.2.2.2.2.2 k0_h13

def k0_off30 (v50_5_r0 : BitVec 32) : Fin 1 → Nat :=
  let c2_i32_r0 : BitVec 32 := 2#32
  let v76_r0 : BitVec 32 := Scalar.remui v50_5_r0 c2_i32_r0
  ![v76_r0.toNat]

def k0_off31 (v50_6_r0 : BitVec 32) : Fin 2 → Nat :=
  let c200_i32_r0 : BitVec 32 := 200#32
  let true_53_r0 : BitVec 1 := 1#1
  let c1_i32_52_r0 : BitVec 32 := 1#32
  let v51_r0 : BitVec 32 := Scalar.subi v50_6_r0 c1_i32_52_r0
  let v52_r0 : BitVec 32 := Scalar.select true_53_r0 v51_r0 v50_6_r0
  let c_m1_i32_54_r0 : BitVec 32 := 4294967295#32
  let v53_r0 : BitVec 1 := Scalar.cmpi .eq v52_r0 c_m1_i32_54_r0
  let c49_i32_55_r0 : BitVec 32 := 49#32
  let v54_r0 : BitVec 32 := Scalar.select v53_r0 c49_i32_55_r0 v52_r0
  let c0_i32_56_r0 : BitVec 32 := 0#32
  let v55_r0 : BitVec 32 := Scalar.addi v54_r0 c0_i32_56_r0
  let v77_r0 : BitVec 32 := Scalar.muli c200_i32_r0 v55_r0
  let c0_i32_77_r0 : BitVec 32 := 0#32
  ![v77_r0.toNat, 0]

def k0_chk6 (v50_6_r0 : BitVec 32) : Prop :=
  (∀ a, (k0_off31 v50_6_r0) a + S200x128.size a ≤ S10000x128.size a)
theorem k0_off31_inb : ∀ (v50_6_r0 : BitVec 32) (k0_hw6 : k0_chk6 v50_6_r0), ∀ a, (k0_off31 v50_6_r0) a + S200x128.size a ≤ S10000x128.size a := fun v50_6_r0 k0_hw6 => k0_hw6

def k0_off32 (v50_5_r0 : BitVec 32) : Fin 3 → Nat :=
  let c2_i32_r0 : BitVec 32 := 2#32
  let v76_r0 : BitVec 32 := Scalar.remui v50_5_r0 c2_i32_r0
  let c0_i32_78_r0 : BitVec 32 := 0#32
  let c0_i32_79_r0 : BitVec 32 := 0#32
  ![v76_r0.toNat, 0, 0]

def k0_chk5 (v50_5_r0 : BitVec 32) : Prop :=
  (∀ a, (k0_off30 v50_5_r0) a + S1.size a ≤ S2.size a) ∧
  (∀ a, (k0_off32 v50_5_r0) a + S1x200x128.size a ≤ S2x200x128.size a)
theorem k0_off30_inb : ∀ (v50_5_r0 : BitVec 32) (k0_hw5 : k0_chk5 v50_5_r0), ∀ a, (k0_off30 v50_5_r0) a + S1.size a ≤ S2.size a := fun v50_5_r0 k0_hw5 => k0_hw5.1
theorem k0_off32_inb : ∀ (v50_5_r0 : BitVec 32) (k0_hw5 : k0_chk5 v50_5_r0), ∀ a, (k0_off32 v50_5_r0) a + S1x200x128.size a ≤ S2x200x128.size a := fun v50_5_r0 k0_hw5 => k0_hw5.2

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S10000x128 : Shape := ⟨2, ![10000, 128]⟩
abbrev S10000x10000 : Shape := ⟨2, ![10000, 10000]⟩
abbrev S1 : Shape := ⟨1, ![1]⟩
abbrev S128x128 : Shape := ⟨2, ![128, 128]⟩
abbrev S128 : Shape := ⟨1, ![128]⟩
abbrev S256x128 : Shape := ⟨2, ![256, 128]⟩
abbrev S_ : Shape := ⟨0, ![]⟩
abbrev S1x1 : Shape := ⟨2, ![1, 1]⟩
abbrev S1x128 : Shape := ⟨2, ![1, 128]⟩
abbrev S10000x256 : Shape := ⟨2, ![10000, 256]⟩

abbrev nBuf : Space → Nat
  | .hbm => 83
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S1, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S256x128, .f32⟩
  | .hbm, ⟨19, _⟩ => ⟨S128, .f32⟩
  | .hbm, ⟨20, _⟩ => ⟨S10000x128, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1x1, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S1x128, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1x1, .f32⟩
  | .hbm, ⟨54, _⟩ => ⟨S10000x128, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S_, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S1x128, .f32⟩
  | .hbm, ⟨73, _⟩ => ⟨S10000x128, .f32⟩
  | .hbm, ⟨74, _⟩ => ⟨S10000x128, .f32⟩
  | .hbm, ⟨75, _⟩ => ⟨S_, .f32⟩
  | .hbm, ⟨76, _⟩ => ⟨S10000x128, .f32⟩
  | .hbm, ⟨77, _⟩ => ⟨S10000x128, .f32⟩
  | .hbm, ⟨78, _⟩ => ⟨S10000x256, .f32⟩
  | .hbm, ⟨79, _⟩ => ⟨S10000x128, .f32⟩
  | .hbm, ⟨80, _⟩ => ⟨S1x128, .f32⟩
  | .hbm, ⟨81, _⟩ => ⟨S10000x128, .f32⟩
  | .hbm, ⟨82, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Proof.Payloads.lean ====
/-
  What one block of rows computes, over the extended reals: each stage of the body read at one row and one column.
-/
module

public import proofs.«01_k».proof.Proof.Gen.KernelIdeal.Skeleton
public import Idealize.ShloMosaic.Lib.Pointwise

@[expose] public section

noncomputable section

namespace Cert.Proof.Rows

open Idealize.ShloMosaic

/-- One layer at one row: the row times a matrix, plus a bias, cut off below at zero. -/
def layer (h : Fin 128 → EReal) (W : Fin 128 → Fin 128 → EReal) (b : Fin 128 → EReal) (j : Fin 128) : EReal :=
  max ((∑ k, h k * W k j) + b j) 0

/-- A row of neighbour weights times the nodes' features. -/
def agg (a : Fin 10000 → EReal) (x : Fin 10000 → Fin 128 → EReal) (j : Fin 128) : EReal := ∑ l, a l * x l j

/-- A matrix read by row and column. -/
abbrev mat {R C : ℕ} (W : (⟨2, ![R, C]⟩ : Shape).Idx → EReal) (k : Fin R) (j : Fin C) : EReal := W (ix2 k j)

/-- The one row of a matrix of one row. -/
abbrev row {C : ℕ} (b : (⟨2, ![1, C]⟩ : Shape).Idx → EReal) (j : Fin C) : EReal := b (ix2 0 j)

/-- The word of the literal two. -/
theorem two_f32 : Ideal.ofBits .f32 0x40000000#32 = 2 := by
  rw [show (2 : EReal) = ((2 : ℝ) : EReal) by norm_cast]
  simp [Ideal.ofBits, Ideal.ieee, -EReal.coe_mul]; norm_num

end Cert.Proof.Rows

namespace Cert.Proof.Rows

open Idealize.ShloMosaic Cert.KernelIdeal Cert.KernelIdeal.Gen

theorem pay1_apply (e : Vec Ideal S1x1 .f32) (A : Vec Ideal S1x200x10000 .f32) (X : Vec Ideal S10000x128 .bf16) (r : Fin 200) (j : Fin 128) :
    k0_pay1 (F := Ideal) e A X (ix2 r j) = (2 + e (ix2 0 0)) * agg (fun l => A (ix3 0 r l)) (mat X) j := by
  pointwise [k0_pay1, agg, mat, two_f32]

theorem pay2_apply (e : Vec Ideal S1x1 .f32) (A : Vec Ideal S1x200x10000 .f32) (X : Vec Ideal S10000x128 .bf16) (W : Vec Ideal S128x128 .f32)
    (b : Vec Ideal S1x128 .f32) (r : Fin 200) (j : Fin 128) :
    k0_pay2 (F := Ideal) e A X W b (ix2 r j)
      = layer (fun k => (2 + e (ix2 0 0)) * agg (fun l => A (ix3 0 r l)) (mat X) k) (mat W) (row b) j := by
  pointwise [k0_pay2, agg, mat, row, layer, two_f32]

theorem pay3_apply (h : FVec Ideal S200x128 .f32) (W : Vec Ideal S128x128 .f32) (b : Vec Ideal S1x128 .f32) (W' : Vec Ideal S128x128 .f32)
    (b' : Vec Ideal S1x128 .f32) (r : Fin 200) (j : Fin 128) :
    k0_pay3 (F := Ideal) h W b W' b' (ix2 r j) = layer (layer (fun k => h (ix2 r k)) (mat W) (row b)) (mat W') (row b') j := by
  pointwise [k0_pay3, mat, row, layer]

theorem pay4_apply (h : FVec Ideal S200x128 .f32) (W : Vec Ideal S128x128 .f32) (b : Vec Ideal S1x128 .f32) (W' : Vec Ideal S128x128 .f32)
    (b' : Vec Ideal S1x128 .f32) (W'' : Vec Ideal S128x128 .f32) (r : Fin 200) (j : Fin 128) :
    k0_pay4 (F := Ideal) h W b W' b' W'' (ix2 r j)
      = ∑ k, layer (layer (fun k => h (ix2 r k)) (mat W) (row b)) (mat W') (row b') k * mat W'' k j := by
  pointwise [k0_pay4, mat, row, layer]

theorem pay5_apply (h z : FVec Ideal S200x128 .f32) (b : Vec Ideal S1x128 .f32) (U U' : Vec Ideal S128x128 .f32)
    (d : Vec Ideal S1x128 .f32) (r : Fin 200) (j : Fin 128) :
    k0_pay5 (F := Ideal) h z b U U' d (ix3 0 r j)
      = ((∑ k, h (ix2 r k) * mat U k j) + ∑ k, max (z (ix2 r k) + row b k) 0 * mat U' k j) + row d j := by
  pointwise [k0_pay5, mat, row]

end Cert.Proof.Rows

end
-- ==== Proof.RefRows.lean ====
/-
  What the reference computes, over the extended reals: its layers read at one row and one column, and the whole result
  as those of its arguments.
-/
module

public import proofs.«01_k».proof.Proof.Payloads
public import proofs.«01_k».proof.Proof.Gen.ReferenceIdeal.Run

@[expose] public section

noncomputable section

namespace Cert.Proof.Rows

open Idealize.ShloMosaic Cert.ReferenceIdeal Cert.ReferenceIdeal.Gen

/-- A vector read by its one coordinate. -/
abbrev vec {C : ℕ} (b : (⟨1, ![C]⟩ : Shape).Idx → EReal) (j : Fin C) : EReal := b (ix1 j)

/-- The reference's layer. -/
def refLayer (h : FVec Ideal S10000x128 .f32) (W : FVec Ideal S128x128 .f32) (b : FVec Ideal S128 .f32) : FVec Ideal S10000x128 .f32 :=
  maximumf (addf (Host.dotGeneral dot_S10000x128_S128x128_S10000x128_1_0_0_1_n_n none h W)
    (broadcastInDim S10000x128 ![0, 1] bcast_S1x128_S10000x128_0_1 (broadcastInDim S1x128 ![1] bcast_S128_S1x128_1 b)))
    (broadcastInDim S10000x128 ![] bcast_S_S10000x128 (constant S_ .f32 0x00000000#32))

/-- The reference's aggregation: the neighbours' sum plus `1 + eps` times itself. -/
def refAgg (A : FVec Ideal S10000x10000 .f32) (X : FVec Ideal S10000x128 .f32) (e : FVec Ideal S1 .f32) : FVec Ideal S10000x128 .f32 :=
  addf (Host.dotGeneral dot_S10000x10000_S10000x128_S10000x128_1_0_0_1_n_n none A X)
    (mulf (broadcastInDim S10000x128 ![0, 1] bcast_S1x1_S10000x128_0_1 (broadcastInDim S1x1 ![1] bcast_S1_S1x1_1
        (addf (broadcastInDim S1 ![] bcast_S_S1 (constant S_ .f32 0x3F800000#32)) e)))
      (Host.dotGeneral dot_S10000x10000_S10000x128_S10000x128_1_0_0_1_n_n none A X))

/-- The reference's mix of the two branches. -/
def refMix (h h' : FVec Ideal S10000x128 .f32) (W : FVec Ideal S256x128 .f32) (b : FVec Ideal S128 .f32) : FVec Ideal S10000x128 .f32 :=
  addf (Host.dotGeneral dot_S10000x256_S256x128_S10000x128_1_0_0_1_n_n none
      (concatenate S10000x256 1 [⟨S10000x128, h⟩, ⟨S10000x128, h'⟩] concatenates_S10000x128_S10000x128_S10000x256_d1) W)
    (broadcastInDim S10000x128 ![0, 1] bcast_S1x128_S10000x128_0_1 (broadcastInDim S1x128 ![1] bcast_S128_S1x128_1 b))

theorem refLayer_apply (h : FVec Ideal S10000x128 .f32) (W : FVec Ideal S128x128 .f32) (b : FVec Ideal S128 .f32) (r : Fin 10000) (j : Fin 128) :
    refLayer h W b (ix2 r j) = layer (fun k => h (ix2 r k)) (mat W) (vec b) j := by
  pointwise [refLayer, layer, mat, vec]

theorem refAgg_apply (A : FVec Ideal S10000x10000 .f32) (X : FVec Ideal S10000x128 .f32) (e : FVec Ideal S1 .f32) (r : Fin 10000) (j : Fin 128) :
    refAgg A X e (ix2 r j) = agg (fun l => A (ix2 r l)) (mat X) j + (1 + e (ix1 0)) * agg (fun l => A (ix2 r l)) (mat X) j := by
  pointwise [refAgg, agg, mat]

theorem refMix_apply (h h' : FVec Ideal S10000x128 .f32) (W : FVec Ideal S256x128 .f32) (b : FVec Ideal S128 .f32) (r : Fin 10000) (j : Fin 128) :
    refMix h h' W b (ix2 r j)
      = ((∑ k : Fin 128, h (ix2 r k) * W (ix2 ⟨k.val, by omega⟩ j)) + ∑ k : Fin 128, h' (ix2 r k) * W (ix2 ⟨128 + k.val, by omega⟩ j)) + vec b j := by
  pointwise [refMix, vec]

/-- The whole reference. -/
def refAll (x1 x2 : FVec Ideal S10000x128 .f32) (a1 a2 : FVec Ideal S10000x10000 .f32) (e1 e2 : FVec Ideal S1 .f32)
    (W10 : FVec Ideal S128x128 .f32) (b10 : FVec Ideal S128 .f32) (W11 : FVec Ideal S128x128 .f32) (b11 : FVec Ideal S128 .f32)
    (W12 : FVec Ideal S128x128 .f32) (b12 : FVec Ideal S128 .f32) (W20 : FVec Ideal S128x128 .f32) (b20 : FVec Ideal S128 .f32)
    (W21 : FVec Ideal S128x128 .f32) (b21 : FVec Ideal S128 .f32) (W22 : FVec Ideal S128x128 .f32) (b22 : FVec Ideal S128 .f32)
    (Wm : FVec Ideal S256x128 .f32) (bm : FVec Ideal S128 .f32) : FVec Ideal S10000x128 .f32 :=
  refMix (refLayer (refLayer (refLayer (refAgg a1 x1 e1) W10 b10) W11 b11) W12 b12)
    (refLayer (refLayer (refLayer (refAgg a2 x2 e2) W20 b20) W21 b21) W22 b22) Wm bm

end Cert.Proof.Rows

end
-- ==== Proof.Words.lean ====
/-
  The words that the pipeline's loop carries, in closed form: before trip `k` the two read streams have taken
  `min (k + 2) 50` blocks, each of them has given back `k`, the write stream has started `k` and finished `k - 1`, and the
  block index is `k`, back at 0 after the last trip. Every offset, condition and check of the loop is then a
  function of `k`, and each fact below is checked at all fifty trips.
-/
module

public import proofs.«01_k».proof.Defs
public import proofs.«01_k».proof.Proof.Gen.KernelIdeal
public import Idealize.ShloMosaic.Lib.Ring

@[expose] public section

namespace Cert.Proof.Run

open Cert.KernelIdeal
open Idealize.ShloMosaic

/-- The word of a small number, kept folded. -/
def w (j : ℕ) : BitVec 32 := BitVec.ofNat 32 j

theorem trips_eq : k0_t1_loop.trips = 50 := by decide +kernel

/-- The offset of slot `s` in a ring of `200 × 10000` blocks, and in the ring of the results. -/
abbrev slotOff (s : ℕ) : Fin 3 → ℕ := ![s, 0, 0]
/-- The offset of slot `s`'s cell. -/
abbrev cellOff (s : ℕ) : Fin 1 → ℕ := ![s]
/-- The offset of block `b` of 200 rows. -/
abbrev rowOff (b : ℕ) : Fin 2 → ℕ := ![200 * b, 0]

/-! ## The offsets, at the word of a number below 50 (or 52 for the streams' next block) -/

theorem off1_eq : k0_off1 = cellOff 0 := by decide +kernel
theorem off2_eq : k0_off2 = slotOff 0 := by decide +kernel
theorem off3_eq : k0_off3 = cellOff 1 := by decide +kernel
theorem off4_eq : k0_off4 = slotOff 1 := by decide +kernel
theorem off5_eq : k0_off5 = rowOff 1 := by decide +kernel
theorem off6_eq : k0_off6 = cellOff 1 := by decide +kernel
theorem off7_eq : k0_off7 = slotOff 1 := by decide +kernel
theorem off8_eq : k0_off8 = rowOff 1 := by decide +kernel

private theorem off9_all : ∀ j : Fin 50, k0_off9 (w j) = cellOff (j % 3) := by decide +kernel
private theorem off10_all : ∀ j : Fin 50, k0_off10 (w j) = slotOff (j % 3) := by decide +kernel
private theorem off11_all : ∀ j : Fin 48, k0_off11 (w j) = rowOff (j + 2) := by decide +kernel
private theorem off12_all : ∀ j : Fin 50, k0_off12 (w j) = cellOff (j % 3) := by decide +kernel
private theorem off13_all : ∀ j : Fin 50, k0_off13 (w j) = slotOff (j % 3) := by decide +kernel
private theorem off14_all : ∀ j : Fin 48, k0_off14 (w j) = rowOff (j + 2) := by decide +kernel
private theorem off15_all : ∀ j : Fin 50, k0_off15 (w j) = cellOff (j % 3) := by decide +kernel
private theorem off16_all : ∀ j : Fin 50, k0_off16 (w j) = slotOff (j % 3) := by decide +kernel
private theorem off17_all : ∀ j : Fin 50, k0_off17 (w j) = rowOff j := by decide +kernel
private theorem off18_all : ∀ j : Fin 50, k0_off18 (w j) = cellOff (j % 3) := by decide +kernel
private theorem off19_all : ∀ j : Fin 50, k0_off19 (w j) = slotOff (j % 3) := by decide +kernel
private theorem off20_all : ∀ j : Fin 50, k0_off20 (w j) = rowOff j := by decide +kernel
private theorem off21_all : ∀ j : Fin 50, k0_off21 (w j) = slotOff (j % 3) := by decide +kernel
private theorem off22_all : ∀ j : Fin 50, k0_off22 (w j) = slotOff (j % 3) := by decide +kernel
private theorem off23_all : ∀ j : Fin 50, k0_off23 (w j) = slotOff (j % 2) := by decide +kernel
private theorem off24_all : ∀ j : Fin 50, k0_off24 (w j) = cellOff (j % 2) := by decide +kernel
private theorem off25_all : ∀ j : Fin 50, k0_off25 (w j) = rowOff j := by decide +kernel
private theorem off26_all : ∀ j : Fin 50, k0_off26 (w j) = slotOff (j % 2) := by decide +kernel
private theorem off27_all : ∀ j : Fin 50, k0_off27 (w j) = cellOff (j % 2) := by decide +kernel
private theorem off28_all : ∀ j : Fin 50, 1 ≤ j.val → k0_off28 (w j) = rowOff (j - 1) := by decide +kernel
private theorem off29_all : ∀ j : Fin 50, k0_off29 (w j) = slotOff (j % 2) := by decide +kernel

theorem off9_eq (j : ℕ) (h : j < 50) : k0_off9 (w j) = cellOff (j % 3) := off9_all ⟨j, h⟩
theorem off10_eq (j : ℕ) (h : j < 50) : k0_off10 (w j) = slotOff (j % 3) := off10_all ⟨j, h⟩
theorem off11_eq (j : ℕ) (h : j < 48) : k0_off11 (w j) = rowOff (j + 2) := off11_all ⟨j, h⟩
theorem off12_eq (j : ℕ) (h : j < 50) : k0_off12 (w j) = cellOff (j % 3) := off12_all ⟨j, h⟩
theorem off13_eq (j : ℕ) (h : j < 50) : k0_off13 (w j) = slotOff (j % 3) := off13_all ⟨j, h⟩
theorem off14_eq (j : ℕ) (h : j < 48) : k0_off14 (w j) = rowOff (j + 2) := off14_all ⟨j, h⟩
theorem off15_eq (j : ℕ) (h : j < 50) : k0_off15 (w j) = cellOff (j % 3) := off15_all ⟨j, h⟩
theorem off16_eq (j : ℕ) (h : j < 50) : k0_off16 (w j) = slotOff (j % 3) := off16_all ⟨j, h⟩
theorem off17_eq (j : ℕ) (h : j < 50) : k0_off17 (w j) = rowOff j := off17_all ⟨j, h⟩
theorem off18_eq (j : ℕ) (h : j < 50) : k0_off18 (w j) = cellOff (j % 3) := off18_all ⟨j, h⟩
theorem off19_eq (j : ℕ) (h : j < 50) : k0_off19 (w j) = slotOff (j % 3) := off19_all ⟨j, h⟩
theorem off20_eq (j : ℕ) (h : j < 50) : k0_off20 (w j) = rowOff j := off20_all ⟨j, h⟩
theorem off21_eq (j : ℕ) (h : j < 50) : k0_off21 (w j) = slotOff (j % 3) := off21_all ⟨j, h⟩
theorem off22_eq (j : ℕ) (h : j < 50) : k0_off22 (w j) = slotOff (j % 3) := off22_all ⟨j, h⟩
theorem off23_eq (j : ℕ) (h : j < 50) : k0_off23 (w j) = slotOff (j % 2) := off23_all ⟨j, h⟩
theorem off24_eq (j : ℕ) (h : j < 50) : k0_off24 (w j) = cellOff (j % 2) := off24_all ⟨j, h⟩
theorem off25_eq (j : ℕ) (h : j < 50) : k0_off25 (w j) = rowOff j := off25_all ⟨j, h⟩
theorem off26_eq (j : ℕ) (h : j < 50) : k0_off26 (w j) = slotOff (j % 2) := off26_all ⟨j, h⟩
theorem off27_eq (j : ℕ) (h : j < 50) : k0_off27 (w j) = cellOff (j % 2) := off27_all ⟨j, h⟩
theorem off28_eq (j : ℕ) (h : j < 50) (h1 : 1 ≤ j) : k0_off28 (w j) = rowOff (j - 1) := off28_all ⟨j, h⟩ h1
theorem off29_eq (j : ℕ) (h : j < 50) : k0_off29 (w j) = slotOff (j % 2) := off29_all ⟨j, h⟩

/-- After the loop the last result's slot and block: the 50th's. -/
theorem off30_eq : k0_off30 (w 49) = cellOff 1 := by decide +kernel
theorem off31_eq : k0_off31 (w 0) = rowOff 49 := by decide +kernel
theorem off32_eq : k0_off32 (w 49) = slotOff 1 := by decide +kernel
theorem chk5_holds : k0_chk5 (w 49) := by decide +kernel
theorem chk6_holds : k0_chk6 (w 0) := by decide +kernel

/-! ## The conditions and the checks -/

theorem cond1_holds : k0_cond1 = 1#1 := by decide +kernel
theorem cond2_holds : k0_cond2 = 1#1 := by decide +kernel

private theorem cond3_all : ∀ k : Fin k0_t1_loop.trips, (k0_cond3 k (w k) = 1#1 ↔ k.val < 48) := by decide +kernel
private theorem cond4_all : ∀ k : Fin k0_t1_loop.trips, (k0_cond4 k (w k) = 1#1 ↔ k.val < 48) := by decide +kernel
private theorem cond5_all : ∀ k : Fin k0_t1_loop.trips, k0_cond5 k (w k) = 1#1 := by decide +kernel
private theorem cond6_all : ∀ k : Fin k0_t1_loop.trips, k0_cond6 k (w k) = 1#1 := by decide +kernel
private theorem cond10_all : ∀ k : Fin k0_t1_loop.trips, k0_cond10 k (w k) = 1#1 := by decide +kernel
private theorem cond13_all : ∀ k : Fin k0_t1_loop.trips, (k0_cond13 k (w k) = 1#1 ↔ 1 ≤ k.val) := by decide +kernel

theorem cond3_iff (k : Fin k0_t1_loop.trips) : k0_cond3 k (w k.val) = 1#1 ↔ k.val < 48 := cond3_all k
theorem cond4_iff (k : Fin k0_t1_loop.trips) : k0_cond4 k (w k.val) = 1#1 ↔ k.val < 48 := cond4_all k
theorem cond5_holds (k : Fin k0_t1_loop.trips) : k0_cond5 k (w k.val) = 1#1 := cond5_all k
theorem cond6_holds (k : Fin k0_t1_loop.trips) : k0_cond6 k (w k.val) = 1#1 := cond6_all k
theorem cond10_holds (k : Fin k0_t1_loop.trips) : k0_cond10 k (w k.val) = 1#1 := cond10_all k
theorem cond13_iff (k : Fin k0_t1_loop.trips) : k0_cond13 k (w k.val) = 1#1 ↔ 1 ≤ k.val := cond13_all k

private theorem chk1_all : ∀ k : Fin k0_t1_loop.trips,
    k0_chk1 k (w (min (k + 2) 50)) (w k) (w (min (k + 2) 50)) (w k) (w k) (w (k - 1)) (w k) := by decide +kernel
private theorem chk2_all : ∀ k : Fin k0_t1_loop.trips, k0_chk2 (w k) := by decide +kernel
private theorem chk3_all : ∀ k : Fin k0_t1_loop.trips, k0_chk3 (w k) := by decide +kernel
private theorem chk4_all : ∀ k : Fin k0_t1_loop.trips, k0_chk4 (w k) := by decide +kernel

theorem chk1_holds (k : Fin k0_t1_loop.trips) :
    k0_chk1 k (w (min (k.val + 2) 50)) (w k.val) (w (min (k.val + 2) 50)) (w k.val) (w k.val) (w (k.val - 1)) (w k.val) := chk1_all k
theorem chk2_holds (k : Fin k0_t1_loop.trips) : k0_chk2 (w k.val) := chk2_all k
theorem chk3_holds (k : Fin k0_t1_loop.trips) : k0_chk3 (w k.val) := chk3_all k
theorem chk4_holds (k : Fin k0_t1_loop.trips) : k0_chk4 (w k.val) := chk4_all k

end Cert.Proof.Run
-- ==== Proof.Pieces.lean ====
/-
  The names of the kernel's pieces — the blocks of the two large arrays and of the result, the slots of the three
  rings, their cells — the canonical-name equations by which the run finds them, and what a held, a home and an
  in-flight piece is.
-/
module

public import proofs.«01_k».proof.Proof.Words
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Names -/

abbrev g1M : Memref sig .tc .hbm S10000x10000 .f32 := Memref.whole main_arg2
abbrev g2M : Memref sig .tc .hbm S10000x10000 .f32 := Memref.whole main_arg3
abbrev oM : Memref sig .tc .hbm S10000x128 .f32 := Memref.whole main_v13
abbrev ring1 : Memref sig .tc .vmem S3x200x10000 .f32 := Memref.whole cc0_scoped0
abbrev ring2 : Memref sig .tc .vmem S3x200x10000 .f32 := Memref.whole cc0_scoped2
abbrev ringO : Memref sig .tc .vmem S2x200x128 .f32 := Memref.whole cc0_scoped4

abbrev rowAt (b : Fin 50) : Fin 2 → ℕ := rowOff b.val
abbrev slot3 (s : Fin 3) : Fin 3 → ℕ := slotOff s.val
abbrev slot2 (s : Fin 2) : Fin 3 → ℕ := slotOff s.val
abbrev cell3 (s : Fin 3) : Fin 1 → ℕ := cellOff s.val
abbrev cell2 (s : Fin 2) : Fin 1 → ℕ := cellOff s.val

theorem rowAt_inbG (b : Fin 50) : ∀ a, rowAt b a + S200x10000.size a ≤ S10000x10000.size a := by
  have := b.isLt; intro a; fin_cases a
  · show 200 * b.val + 200 ≤ 10000; omega
  · show 0 + 10000 ≤ 10000; omega
theorem rowAt_inbO (b : Fin 50) : ∀ a, rowAt b a + S200x128.size a ≤ S10000x128.size a := by
  have := b.isLt; intro a; fin_cases a
  · show 200 * b.val + 200 ≤ 10000; omega
  · show 0 + 128 ≤ 128; omega
theorem slot3_inb (s : Fin 3) : ∀ a, slot3 s a + S1x200x10000.size a ≤ S3x200x10000.size a := by
  have := s.isLt; intro a; fin_cases a
  · show s.val + 1 ≤ 3; omega
  · show 0 + 200 ≤ 200; omega
  · show 0 + 10000 ≤ 10000; omega
theorem slot2_inb (s : Fin 2) : ∀ a, slot2 s a + S1x200x128.size a ≤ S2x200x128.size a := by
  have := s.isLt; intro a; fin_cases a
  · show s.val + 1 ≤ 2; omega
  · show 0 + 200 ≤ 200; omega
  · show 0 + 128 ≤ 128; omega
theorem cell3_inb (s : Fin 3) : ∀ a, cell3 s a + S1.size a ≤ S3.size a := by
  have := s.isLt; intro a; fin_cases a; show s.val + 1 ≤ 3; omega
theorem cell2_inb (s : Fin 2) : ∀ a, cell2 s a + S1.size a ≤ S2.size a := by
  have := s.isLt; intro a; fin_cases a; show s.val + 1 ≤ 2; omega

/-- Block `b` of 200 rows of the first large array, of the second, of the result. -/
def gb1 (b : Fin 50) : Memref sig .tc .hbm S200x10000 .f32 :=
  g1M.slice (Rect.unit (s := S10000x10000) (rowAt b) S200x10000.size (rowAt_inbG b)) (fun _ => rfl)
def gb2 (b : Fin 50) : Memref sig .tc .hbm S200x10000 .f32 :=
  g2M.slice (Rect.unit (s := S10000x10000) (rowAt b) S200x10000.size (rowAt_inbG b)) (fun _ => rfl)
def ob (b : Fin 50) : Memref sig .tc .hbm S200x128 .f32 :=
  oM.slice (Rect.unit (s := S10000x128) (rowAt b) S200x128.size (rowAt_inbO b)) (fun _ => rfl)
/-- Slot `s` of each ring. -/
def rs1 (s : Fin 3) : Memref sig .tc .vmem S200x10000 .f32 :=
  (ring1.slice (Rect.unit (s := S3x200x10000) (slot3 s) S1x200x10000.size (slot3_inb s)) (fun _ => rfl)).squeeze S200x10000 squeezes_S1x200x10000_S200x10000
def rs2 (s : Fin 3) : Memref sig .tc .vmem S200x10000 .f32 :=
  (ring2.slice (Rect.unit (s := S3x200x10000) (slot3 s) S1x200x10000.size (slot3_inb s)) (fun _ => rfl)).squeeze S200x10000 squeezes_S1x200x10000_S200x10000
def rsO (s : Fin 2) : Memref sig .tc .vmem S200x128 .f32 :=
  (ringO.slice (Rect.unit (s := S2x200x128) (slot2 s) S1x200x128.size (slot2_inb s)) (fun _ => rfl)).squeeze S200x128 squeezes_S1x200x128_S200x128
/-- Slot `s`'s cell in each ring. -/
def cs1 (s : Fin 3) : DmaSems sig S_ := (cc0_scoped1.slice (Rect.unit (s := S3) (cell3 s) S1.size (cell3_inb s))).squeeze S_ squeezes_S1_S_
def cs2 (s : Fin 3) : DmaSems sig S_ := (cc0_scoped3.slice (Rect.unit (s := S3) (cell3 s) S1.size (cell3_inb s))).squeeze S_ squeezes_S1_S_
def csO (s : Fin 2) : DmaSems sig S_ := (cc0_scoped5.slice (Rect.unit (s := S2) (cell2 s) S1.size (cell2_inb s))).squeeze S_ squeezes_S1_S_

instance (s : Fin 3) : ClosedOff (slot3 s) := ⟨slot3 s, rfl⟩
instance (s : Fin 2) : ClosedOff (slot2 s) := ⟨slot2 s, rfl⟩
instance (b : Fin 50) : ClosedOff (rowAt b) := ⟨rowAt b, rfl⟩
theorem lt50 (k : Fin k0_t1_loop.trips) : k.val < 50 := Nat.lt_of_lt_of_eq k.isLt trips_eq
instance (k : Fin k0_t1_loop.trips) : ClosedOff (k0_off21 (w k.val)) := ⟨slot3 (Ring.sl 3 k.val), off21_eq _ (lt50 k)⟩
instance (k : Fin k0_t1_loop.trips) : ClosedOff (k0_off22 (w k.val)) := ⟨slot3 (Ring.sl 3 k.val), off22_eq _ (lt50 k)⟩
instance (k : Fin k0_t1_loop.trips) : ClosedOff (k0_off23 (w k.val)) := ⟨slot2 (Ring.sl 2 k.val), off23_eq _ (lt50 k)⟩

/-! ## The body's slices are these -/

section Canon

private theorem gb1_congr {off : Fin 2 → ℕ} {b : Fin 50} (e : off = rowAt b) (hh hs) :
    g1M.slice (Rect.unit (s := S10000x10000) off S200x10000.size hh) hs = gb1 b := Memref.slice_unit_congr _ e _ (rowAt_inbG b) _ (fun _ => rfl)
private theorem gb2_congr {off : Fin 2 → ℕ} {b : Fin 50} (e : off = rowAt b) (hh hs) :
    g2M.slice (Rect.unit (s := S10000x10000) off S200x10000.size hh) hs = gb2 b := Memref.slice_unit_congr _ e _ (rowAt_inbG b) _ (fun _ => rfl)
private theorem ob_congr {off : Fin 2 → ℕ} {b : Fin 50} (e : off = rowAt b) (hh hs) :
    oM.slice (Rect.unit (s := S10000x128) off S200x128.size hh) hs = ob b := Memref.slice_unit_congr _ e _ (rowAt_inbO b) _ (fun _ => rfl)
private theorem rs1_congr {off : Fin 3 → ℕ} {s : Fin 3} (e : off = slot3 s) (hh hs) :
    (ring1.slice (Rect.unit (s := S3x200x10000) off S1x200x10000.size hh) hs).squeeze S200x10000 squeezes_S1x200x10000_S200x10000 = rs1 s :=
  congrArg (fun M : Memref sig .tc .vmem S1x200x10000 .f32 => M.squeeze S200x10000 squeezes_S1x200x10000_S200x10000) (Memref.slice_unit_congr _ e _ _ _ _)
private theorem rs2_congr {off : Fin 3 → ℕ} {s : Fin 3} (e : off = slot3 s) (hh hs) :
    (ring2.slice (Rect.unit (s := S3x200x10000) off S1x200x10000.size hh) hs).squeeze S200x10000 squeezes_S1x200x10000_S200x10000 = rs2 s :=
  congrArg (fun M : Memref sig .tc .vmem S1x200x10000 .f32 => M.squeeze S200x10000 squeezes_S1x200x10000_S200x10000) (Memref.slice_unit_congr _ e _ _ _ _)
private theorem rsO_congr {off : Fin 3 → ℕ} {s : Fin 2} (e : off = slot2 s) (hh hs) :
    (ringO.slice (Rect.unit (s := S2x200x128) off S1x200x128.size hh) hs).squeeze S200x128 squeezes_S1x200x128_S200x128 = rsO s :=
  congrArg (fun M : Memref sig .tc .vmem S1x200x128 .f32 => M.squeeze S200x128 squeezes_S1x200x128_S200x128) (Memref.slice_unit_congr _ e _ _ _ _)
private theorem cs1_congr {off : Fin 1 → ℕ} {s : Fin 3} (e : off = cell3 s) (hh) :
    (cc0_scoped1.slice (Rect.unit (s := S3) off S1.size hh)).squeeze S_ squeezes_S1_S_ = cs1 s :=
  congrArg (fun A : DmaSems sig S1 => A.squeeze S_ squeezes_S1_S_) (SemArray.slice_unit_congr _ e _ _)
private theorem cs2_congr {off : Fin 1 → ℕ} {s : Fin 3} (e : off = cell3 s) (hh) :
    (cc0_scoped3.slice (Rect.unit (s := S3) off S1.size hh)).squeeze S_ squeezes_S1_S_ = cs2 s :=
  congrArg (fun A : DmaSems sig S1 => A.squeeze S_ squeezes_S1_S_) (SemArray.slice_unit_congr _ e _ _)
private theorem csO_congr {off : Fin 1 → ℕ} {s : Fin 2} (e : off = cell2 s) (hh) :
    (cc0_scoped5.slice (Rect.unit (s := S2) off S1.size hh)).squeeze S_ squeezes_S1_S_ = csO s :=
  congrArg (fun A : DmaSems sig S1 => A.squeeze S_ squeezes_S1_S_) (SemArray.slice_unit_congr _ e _ _)

private theorem row_bk {off : Fin 2 → ℕ} {j : ℕ} (e : off = rowOff j) (h : j < 50) : off = rowAt (Ring.bk 50 j) := by
  rw [e]; unfold rowAt; rw [Ring.bk_val h]

/-! Before the loop: blocks, slots and cells 0 and 1. -/
@[sl_canon] theorem cs1_0 (hh) : (cc0_scoped1.slice (Rect.unit (s := S3) k0_off1 S1.size hh)).squeeze S_ squeezes_S1_S_ = cs1 (Ring.sl 3 0) := cs1_congr off1_eq _
@[sl_canon] theorem cs2_0 (hh) : (cc0_scoped3.slice (Rect.unit (s := S3) k0_off1 S1.size hh)).squeeze S_ squeezes_S1_S_ = cs2 (Ring.sl 3 0) := cs2_congr off1_eq _
@[sl_canon] theorem cs1_1 (hh) : (cc0_scoped1.slice (Rect.unit (s := S3) k0_off3 S1.size hh)).squeeze S_ squeezes_S1_S_ = cs1 (Ring.sl 3 1) := cs1_congr off3_eq _
@[sl_canon] theorem cs2_1 (hh) : (cc0_scoped3.slice (Rect.unit (s := S3) k0_off6 S1.size hh)).squeeze S_ squeezes_S1_S_ = cs2 (Ring.sl 3 1) := cs2_congr off6_eq _
@[sl_canon] theorem rs1_0 (hh hs) : (ring1.slice (Rect.unit (s := S3x200x10000) k0_off2 S1x200x10000.size hh) hs).squeeze S200x10000 squeezes_S1x200x10000_S200x10000 = rs1 (Ring.sl 3 0) := rs1_congr off2_eq _ _
@[sl_canon] theorem rs2_0 (hh hs) : (ring2.slice (Rect.unit (s := S3x200x10000) k0_off2 S1x200x10000.size hh) hs).squeeze S200x10000 squeezes_S1x200x10000_S200x10000 = rs2 (Ring.sl 3 0) := rs2_congr off2_eq _ _
@[sl_canon] theorem rs1_1 (hh hs) : (ring1.slice (Rect.unit (s := S3x200x10000) k0_off4 S1x200x10000.size hh) hs).squeeze S200x10000 squeezes_S1x200x10000_S200x10000 = rs1 (Ring.sl 3 1) := rs1_congr off4_eq _ _
@[sl_canon] theorem rs2_1 (hh hs) : (ring2.slice (Rect.unit (s := S3x200x10000) k0_off7 S1x200x10000.size hh) hs).squeeze S200x10000 squeezes_S1x200x10000_S200x10000 = rs2 (Ring.sl 3 1) := rs2_congr off7_eq _ _
@[sl_canon] theorem gb1_0 (hh hs) : g1M.slice (Rect.unit (s := S10000x10000) ![0, 0] S200x10000.size hh) hs = gb1 (Ring.bk 50 0) := gb1_congr (by decide) _ _
@[sl_canon] theorem gb2_0 (hh hs) : g2M.slice (Rect.unit (s := S10000x10000) ![0, 0] S200x10000.size hh) hs = gb2 (Ring.bk 50 0) := gb2_congr (by decide) _ _
@[sl_canon] theorem gb1_1 (hh hs) : g1M.slice (Rect.unit (s := S10000x10000) k0_off5 S200x10000.size hh) hs = gb1 (Ring.bk 50 1) := gb1_congr (row_bk off5_eq (by decide)) _ _
@[sl_canon] theorem gb2_1 (hh hs) : g2M.slice (Rect.unit (s := S10000x10000) k0_off8 S200x10000.size hh) hs = gb2 (Ring.bk 50 1) := gb2_congr (row_bk off8_eq (by decide)) _ _

/-! In trip `j`: the blocks issued (`j + 2`), the blocks awaited (`j`), the result's block issued and the one before it awaited. -/
@[sl_canon] theorem cs1_i (j : ℕ) (h : j < 50) (hh) : (cc0_scoped1.slice (Rect.unit (s := S3) (k0_off9 (w j)) S1.size hh)).squeeze S_ squeezes_S1_S_ = cs1 (Ring.sl 3 j) := cs1_congr (off9_eq j h) _
@[sl_canon] theorem cs2_i (j : ℕ) (h : j < 50) (hh) : (cc0_scoped3.slice (Rect.unit (s := S3) (k0_off12 (w j)) S1.size hh)).squeeze S_ squeezes_S1_S_ = cs2 (Ring.sl 3 j) := cs2_congr (off12_eq j h) _
@[sl_canon] theorem rs1_i (j : ℕ) (h : j < 50) (hh hs) : (ring1.slice (Rect.unit (s := S3x200x10000) (k0_off10 (w j)) S1x200x10000.size hh) hs).squeeze S200x10000 squeezes_S1x200x10000_S200x10000 = rs1 (Ring.sl 3 j) := rs1_congr (off10_eq j h) _ _
@[sl_canon] theorem rs2_i (j : ℕ) (h : j < 50) (hh hs) : (ring2.slice (Rect.unit (s := S3x200x10000) (k0_off13 (w j)) S1x200x10000.size hh) hs).squeeze S200x10000 squeezes_S1x200x10000_S200x10000 = rs2 (Ring.sl 3 j) := rs2_congr (off13_eq j h) _ _
@[sl_canon] theorem gb1_i (j : ℕ) (h : j < 48) (hh hs) : g1M.slice (Rect.unit (s := S10000x10000) (k0_off11 (w j)) S200x10000.size hh) hs = gb1 (Ring.bk 50 (j + 2)) := gb1_congr (row_bk (off11_eq j h) (by omega)) _ _
@[sl_canon] theorem gb2_i (j : ℕ) (h : j < 48) (hh hs) : g2M.slice (Rect.unit (s := S10000x10000) (k0_off14 (w j)) S200x10000.size hh) hs = gb2 (Ring.bk 50 (j + 2)) := gb2_congr (row_bk (off14_eq j h) (by omega)) _ _
@[sl_canon] theorem cs1_w (j : ℕ) (h : j < 50) (hh) : (cc0_scoped1.slice (Rect.unit (s := S3) (k0_off15 (w j)) S1.size hh)).squeeze S_ squeezes_S1_S_ = cs1 (Ring.sl 3 j) := cs1_congr (off15_eq j h) _
@[sl_canon] theorem cs2_w (j : ℕ) (h : j < 50) (hh) : (cc0_scoped3.slice (Rect.unit (s := S3) (k0_off18 (w j)) S1.size hh)).squeeze S_ squeezes_S1_S_ = cs2 (Ring.sl 3 j) := cs2_congr (off18_eq j h) _
@[sl_canon] theorem rs1_w (j : ℕ) (h : j < 50) (hh hs) : (ring1.slice (Rect.unit (s := S3x200x10000) (k0_off16 (w j)) S1x200x10000.size hh) hs).squeeze S200x10000 squeezes_S1x200x10000_S200x10000 = rs1 (Ring.sl 3 j) := rs1_congr (off16_eq j h) _ _
@[sl_canon] theorem rs2_w (j : ℕ) (h : j < 50) (hh hs) : (ring2.slice (Rect.unit (s := S3x200x10000) (k0_off19 (w j)) S1x200x10000.size hh) hs).squeeze S200x10000 squeezes_S1x200x10000_S200x10000 = rs2 (Ring.sl 3 j) := rs2_congr (off19_eq j h) _ _
@[sl_canon] theorem gb1_w (j : ℕ) (h : j < 50) (hh hs) : g1M.slice (Rect.unit (s := S10000x10000) (k0_off17 (w j)) S200x10000.size hh) hs = gb1 (Ring.bk 50 j) := gb1_congr (row_bk (off17_eq j h) h) _ _
@[sl_canon] theorem gb2_w (j : ℕ) (h : j < 50) (hh hs) : g2M.slice (Rect.unit (s := S10000x10000) (k0_off20 (w j)) S200x10000.size hh) hs = gb2 (Ring.bk 50 j) := gb2_congr (row_bk (off20_eq j h) h) _ _
@[sl_canon] theorem csO_i (j : ℕ) (h : j < 50) (hh) : (cc0_scoped5.slice (Rect.unit (s := S2) (k0_off24 (w j)) S1.size hh)).squeeze S_ squeezes_S1_S_ = csO (Ring.sl 2 j) := csO_congr (off24_eq j h) _
@[sl_canon] theorem rsO_i (j : ℕ) (h : j < 50) (hh hs) : (ringO.slice (Rect.unit (s := S2x200x128) (k0_off26 (w j)) S1x200x128.size hh) hs).squeeze S200x128 squeezes_S1x200x128_S200x128 = rsO (Ring.sl 2 j) := rsO_congr (off26_eq j h) _ _
@[sl_canon] theorem ob_i (j : ℕ) (h : j < 50) (hh hs) : oM.slice (Rect.unit (s := S10000x128) (k0_off25 (w j)) S200x128.size hh) hs = ob (Ring.bk 50 j) := ob_congr (row_bk (off25_eq j h) h) _ _
@[sl_canon] theorem csO_w (j : ℕ) (h : j < 50) (hh) : (cc0_scoped5.slice (Rect.unit (s := S2) (k0_off27 (w j)) S1.size hh)).squeeze S_ squeezes_S1_S_ = csO (Ring.sl 2 j) := csO_congr (off27_eq j h) _
@[sl_canon] theorem rsO_w (j : ℕ) (h : j < 50) (hh hs) : (ringO.slice (Rect.unit (s := S2x200x128) (k0_off29 (w j)) S1x200x128.size hh) hs).squeeze S200x128 squeezes_S1x200x128_S200x128 = rsO (Ring.sl 2 j) := rsO_congr (off29_eq j h) _ _
@[sl_canon] theorem ob_w (j : ℕ) (h : j < 50) (h1 : 1 ≤ j) (hh hs) : oM.slice (Rect.unit (s := S10000x128) (k0_off28 (w j)) S200x128.size hh) hs = ob (Ring.bk 50 (j - 1)) := ob_congr (row_bk (off28_eq j h h1) (by omega)) _ _

/-! After the loop: the last result. -/
@[sl_canon] theorem csO_e (hh) : (cc0_scoped5.slice (Rect.unit (s := S2) (k0_off30 (w 49)) S1.size hh)).squeeze S_ squeezes_S1_S_ = csO (Ring.sl 2 49) := csO_congr off30_eq _
@[sl_canon] theorem rsO_e (hh hs) : (ringO.slice (Rect.unit (s := S2x200x128) (k0_off32 (w 49)) S1x200x128.size hh) hs).squeeze S200x128 squeezes_S1x200x128_S200x128 = rsO (Ring.sl 2 49) := rsO_congr off32_eq _ _
@[sl_canon] theorem ob_e (hh hs) : oM.slice (Rect.unit (s := S10000x128) (k0_off31 (w 0)) S200x128.size hh) hs = ob (Ring.bk 50 49) := ob_congr (row_bk off31_eq (by decide)) _ _

end Canon

/-! ## The pieces -/

section Pieces

variable (c : Dev nD)
variable (X1 : Buf (Elt F) (g1M.view.loc (c : Thread nD τ))) (X2 : Buf (Elt F) (g2M.view.loc (c : Thread nD τ)))

abbrev cellP1 (s : Fin 3) : sProp 𝕄 := semVal ((c : Thread nD τ), SemLoc.dma (cs1 s).sem) 0
abbrev cellP2 (s : Fin 3) : sProp 𝕄 := semVal ((c : Thread nD τ), SemLoc.dma (cs2 s).sem) 0
abbrev cellPO (s : Fin 2) : sProp 𝕄 := semVal ((c : Thread nD τ), SemLoc.dma (csO s).sem) 0
abbrev slotP1 (s : Fin 3) (f : Buf (Elt F) ((rs1 s).view.loc (c : Thread nD τ))) : sProp 𝕄 :=
  (rs1 s).view.loc (c : Thread nD τ) ↦[(rs1 s).view.set]{fullShare} f
abbrev slotP2 (s : Fin 3) (f : Buf (Elt F) ((rs2 s).view.loc (c : Thread nD τ))) : sProp 𝕄 :=
  (rs2 s).view.loc (c : Thread nD τ) ↦[(rs2 s).view.set]{fullShare} f
abbrev slotPO (s : Fin 2) (f : Buf (Elt F) ((rsO s).view.loc (c : Thread nD τ))) : sProp 𝕄 :=
  (rsO s).view.loc (c : Thread nD τ) ↦[(rsO s).view.set]{fullShare} f
/-- Block `b` of each large array at home, and of the result. -/
abbrev homeP1 (b : Fin 50) : sProp 𝕄 := (gb1 b).view.loc (c : Thread nD τ) ↦[(gb1 b).view.set]{fullShare} X1
abbrev homeP2 (b : Fin 50) : sProp 𝕄 := (gb2 b).view.loc (c : Thread nD τ) ↦[(gb2 b).view.set]{fullShare} X2
abbrev outP (f : Buf (Elt F) (oM.view.loc (c : Thread nD τ))) (b : Fin 50) : sProp 𝕄 :=
  (ob b).view.loc (c : Thread nD τ) ↦[(ob b).view.set]{fullShare} f

/-- What block `b`'s transfer leaves in slot `s` over `f`. -/
abbrev landed1 (s : Fin 3) (b : Fin 50) (f : Buf (Elt F) ((rs1 s).view.loc (c : Thread nD τ))) : Buf (Elt F) ((rs1 s).view.loc (c : Thread nD τ)) :=
  (rs1 s).view.writes (Elt F) f [⟨Rect.whole S200x10000, ReadAs.same.apply ((gb1 b).view.read (Elt F) X1)⟩]
abbrev landed2 (s : Fin 3) (b : Fin 50) (f : Buf (Elt F) ((rs2 s).view.loc (c : Thread nD τ))) : Buf (Elt F) ((rs2 s).view.loc (c : Thread nD τ)) :=
  (rs2 s).view.writes (Elt F) f [⟨Rect.whole S200x10000, ReadAs.same.apply ((gb2 b).view.read (Elt F) X2)⟩]
/-- Slot `s` in flight with block `b`. -/
abbrev flightP1 (s : Fin 3) (b : Fin 50) (f : Buf (Elt F) ((rs1 s).view.loc (c : Thread nD τ))) : sProp 𝕄 :=
  Transfers.Flight countersEmb (c : Thread nD τ) (SemLoc.dma (cs1 s).sem) () 252800 iprop(slotP1 c s (landed1 c X1 s b f) ∗ homeP1 c X1 b)
abbrev flightP2 (s : Fin 3) (b : Fin 50) (f : Buf (Elt F) ((rs2 s).view.loc (c : Thread nD τ))) : sProp 𝕄 :=
  Transfers.Flight countersEmb (c : Thread nD τ) (SemLoc.dma (cs2 s).sem) () 252800 iprop(slotP2 c s (landed2 c X2 s b f) ∗ homeP2 c X2 b)
/-- The result's block `b` in flight from slot `s`, which holds `fs`. -/
abbrev flightPO (s : Fin 2) (b : Fin 50) (fs : Buf (Elt F) ((rsO s).view.loc (c : Thread nD τ))) (fd : Buf (Elt F) (oM.view.loc (c : Thread nD τ))) : sProp 𝕄 :=
  Transfers.Flight countersEmb (c : Thread nD τ) (SemLoc.dma (csO s).sem) () 3200
    iprop(outP c ((ob b).view.writes (Elt F) fd [⟨Rect.whole S200x128, ReadAs.same.apply ((rsO s).view.read (Elt F) fs)⟩]) b ∗ slotPO c s fs)

/-- Slot `s` free: its elements at anything, its cell at zero. -/
def free1 (s : Fin 3) : sProp 𝕄 := iprop((∃ f, slotP1 c s f) ∗ cellP1 c s)
def free2 (s : Fin 3) : sProp 𝕄 := iprop((∃ f, slotP2 c s f) ∗ cellP2 c s)
def freeO (s : Fin 2) : sProp 𝕄 := iprop((∃ f, slotPO c s f) ∗ cellPO c s)

/-- The slot of block `j`: in flight with it, or free when there is no such block. -/
def fl1 (j : ℕ) : sProp 𝕄 := if j < 50 then iprop(∃ f, flightP1 c X1 (Ring.sl 3 j) (Ring.bk 50 j) f) else free1 c (Ring.sl 3 j)
def fl2 (j : ℕ) : sProp 𝕄 := if j < 50 then iprop(∃ f, flightP2 c X2 (Ring.sl 3 j) (Ring.bk 50 j) f) else free2 c (Ring.sl 3 j)

theorem fl1_lt {j : ℕ} (h : j < 50) : fl1 c X1 j = iprop(∃ f, flightP1 c X1 (Ring.sl 3 j) (Ring.bk 50 j) f) := if_pos h
theorem fl2_lt {j : ℕ} (h : j < 50) : fl2 c X2 j = iprop(∃ f, flightP2 c X2 (Ring.sl 3 j) (Ring.bk 50 j) f) := if_pos h
theorem fl1_ge {j : ℕ} (h : ¬ j < 50) : fl1 c X1 j = free1 c (Ring.sl 3 j) := if_neg h
theorem fl2_ge {j : ℕ} (h : ¬ j < 50) : fl2 c X2 j = free2 c (Ring.sl 3 j) := if_neg h

/-- The homes before trip `k`, block `k + 2` apart; the homes after it, block `k` back. -/
theorem homes_here (P : Fin 50 → sProp 𝕄) (k : ℕ) (hk : k + 2 < 50) :
    bigSep (Ring.homeSet 2 k) P = iprop(P (Ring.bk 50 (k + 2)) ∗ bigSep ((Ring.homeSet 2 k).erase (Ring.bk 50 (k + 2))) P) := by
  conv_lhs => rw [Ring.homeSet_out 2 k hk, bigSep_insert (Ring.bkL_not_mem_erase 2 k)]
  rfl
theorem homes_next (P : Fin 50 → sProp 𝕄) (k : ℕ) (hk : k + 2 < 50) :
    bigSep (Ring.homeSet 2 (k + 1)) P = iprop(P (Ring.bk 50 k) ∗ bigSep ((Ring.homeSet 2 k).erase (Ring.bk 50 (k + 2))) P) := by
  conv_lhs => rw [Ring.homeSet_succ 2 k hk, bigSep_insert (Ring.bk_not_mem_erase 2 k (by omega) (by decide))]
  rfl
theorem homes_tail (P : Fin 50 → sProp 𝕄) (k : ℕ) (hk : 50 ≤ k + 2) (hp : k < 50) :
    bigSep (Ring.homeSet 2 (k + 1)) P = iprop(P (Ring.bk 50 k) ∗ bigSep (Ring.homeSet 2 k) P) := by
  conv_lhs => rw [Ring.homeSet_succ_tail 2 k hk hp, bigSep_insert (Ring.bk_not_mem_homeSet 2 k hp (by decide))]
  rfl

end Pieces

end Cert.Proof.Run

end
-- ==== Proof.Trip.lean ====
/-
  One trip of the pipeline's loop, at a symbolic trip number: the next blocks of the two large arrays sent for, this
  trip's blocks awaited, the 200 result rows computed and stored, their transfer started and the one before it awaited.
-/
module

public import proofs.«01_k».proof.Proof.Pieces
public import Idealize.ShloMosaic.Lib.VecWindow

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (c : Dev nD) (t : Fin cfg0.N)

/-! ## The staged operands -/

def ms0_0 (t : Fin cfg0.N) : Memref sig .tc .vmem S1x1 .f32 := win0_0.stage (cfg0.slots t 0)
theorem hs0_0 (t : Fin cfg0.N) : (ms0_0 t).IsWhole := hstage0_0 0
def ms0_1 (t : Fin cfg0.N) : Memref sig .tc .vmem S1x1 .f32 := win0_1.stage (cfg0.slots t 1)
theorem hs0_1 (t : Fin cfg0.N) : (ms0_1 t).IsWhole := hstage0_1 0
def ms0_2 (t : Fin cfg0.N) : Memref sig .tc .vmem S10000x128 .bf16 := win0_2.stage (cfg0.slots t 2)
theorem hs0_2 (t : Fin cfg0.N) : (ms0_2 t).IsWhole := hstage0_2 0
def ms0_3 (t : Fin cfg0.N) : Memref sig .tc .vmem S10000x128 .bf16 := win0_3.stage (cfg0.slots t 3)
theorem hs0_3 (t : Fin cfg0.N) : (ms0_3 t).IsWhole := hstage0_3 0
def ms0_4 (t : Fin cfg0.N) : Memref sig .tc .vmem S128x128 .f32 := win0_4.stage (cfg0.slots t 4)
theorem hs0_4 (t : Fin cfg0.N) : (ms0_4 t).IsWhole := hstage0_4 0
def ms0_5 (t : Fin cfg0.N) : Memref sig .tc .vmem S1x128 .f32 := win0_5.stage (cfg0.slots t 5)
theorem hs0_5 (t : Fin cfg0.N) : (ms0_5 t).IsWhole := hstage0_5 0
def ms0_6 (t : Fin cfg0.N) : Memref sig .tc .vmem S128x128 .f32 := win0_6.stage (cfg0.slots t 6)
theorem hs0_6 (t : Fin cfg0.N) : (ms0_6 t).IsWhole := hstage0_6 0
def ms0_7 (t : Fin cfg0.N) : Memref sig .tc .vmem S1x128 .f32 := win0_7.stage (cfg0.slots t 7)
theorem hs0_7 (t : Fin cfg0.N) : (ms0_7 t).IsWhole := hstage0_7 0
def ms0_8 (t : Fin cfg0.N) : Memref sig .tc .vmem S128x128 .f32 := win0_8.stage (cfg0.slots t 8)
theorem hs0_8 (t : Fin cfg0.N) : (ms0_8 t).IsWhole := hstage0_8 0
def ms0_9 (t : Fin cfg0.N) : Memref sig .tc .vmem S1x128 .f32 := win0_9.stage (cfg0.slots t 9)
theorem hs0_9 (t : Fin cfg0.N) : (ms0_9 t).IsWhole := hstage0_9 0
def ms0_10 (t : Fin cfg0.N) : Memref sig .tc .vmem S128x128 .f32 := win0_10.stage (cfg0.slots t 10)
theorem hs0_10 (t : Fin cfg0.N) : (ms0_10 t).IsWhole := hstage0_10 0
def ms0_11 (t : Fin cfg0.N) : Memref sig .tc .vmem S1x128 .f32 := win0_11.stage (cfg0.slots t 11)
theorem hs0_11 (t : Fin cfg0.N) : (ms0_11 t).IsWhole := hstage0_11 0
def ms0_12 (t : Fin cfg0.N) : Memref sig .tc .vmem S128x128 .f32 := win0_12.stage (cfg0.slots t 12)
theorem hs0_12 (t : Fin cfg0.N) : (ms0_12 t).IsWhole := hstage0_12 0
def ms0_13 (t : Fin cfg0.N) : Memref sig .tc .vmem S1x128 .f32 := win0_13.stage (cfg0.slots t 13)
theorem hs0_13 (t : Fin cfg0.N) : (ms0_13 t).IsWhole := hstage0_13 0
def ms0_14 (t : Fin cfg0.N) : Memref sig .tc .vmem S128x128 .f32 := win0_14.stage (cfg0.slots t 14)
theorem hs0_14 (t : Fin cfg0.N) : (ms0_14 t).IsWhole := hstage0_14 0
def ms0_15 (t : Fin cfg0.N) : Memref sig .tc .vmem S1x128 .f32 := win0_15.stage (cfg0.slots t 15)
theorem hs0_15 (t : Fin cfg0.N) : (ms0_15 t).IsWhole := hstage0_15 0
def ms0_16 (t : Fin cfg0.N) : Memref sig .tc .vmem S128x128 .f32 := win0_16.stage (cfg0.slots t 16)
theorem hs0_16 (t : Fin cfg0.N) : (ms0_16 t).IsWhole := hstage0_16 0
def ms0_17 (t : Fin cfg0.N) : Memref sig .tc .vmem S128x128 .f32 := win0_17.stage (cfg0.slots t 17)
theorem hs0_17 (t : Fin cfg0.N) : (ms0_17 t).IsWhole := hstage0_17 0
def ms0_18 (t : Fin cfg0.N) : Memref sig .tc .vmem S1x128 .f32 := win0_18.stage (cfg0.slots t 18)
theorem hs0_18 (t : Fin cfg0.N) : (ms0_18 t).IsWhole := hstage0_18 0

/-- The 19 staged operands, each at its block of its array. -/
def wins : sProp 𝕄 := iprop(
((ms0_0 t).view.loc (c : Thread nD τ) ↦[(ms0_0 t).view.set]{fullShare} (ms0_0 t).view.rep (iblk m c 0 t))
    ∗ ((ms0_1 t).view.loc (c : Thread nD τ) ↦[(ms0_1 t).view.set]{fullShare} (ms0_1 t).view.rep (iblk m c 1 t))
    ∗ ((ms0_2 t).view.loc (c : Thread nD τ) ↦[(ms0_2 t).view.set]{fullShare} (ms0_2 t).view.rep (iblk m c 2 t))
    ∗ ((ms0_3 t).view.loc (c : Thread nD τ) ↦[(ms0_3 t).view.set]{fullShare} (ms0_3 t).view.rep (iblk m c 3 t))
    ∗ ((ms0_4 t).view.loc (c : Thread nD τ) ↦[(ms0_4 t).view.set]{fullShare} (ms0_4 t).view.rep (iblk m c 4 t))
    ∗ ((ms0_5 t).view.loc (c : Thread nD τ) ↦[(ms0_5 t).view.set]{fullShare} (ms0_5 t).view.rep (iblk m c 5 t))
    ∗ ((ms0_6 t).view.loc (c : Thread nD τ) ↦[(ms0_6 t).view.set]{fullShare} (ms0_6 t).view.rep (iblk m c 6 t))
    ∗ ((ms0_7 t).view.loc (c : Thread nD τ) ↦[(ms0_7 t).view.set]{fullShare} (ms0_7 t).view.rep (iblk m c 7 t))
    ∗ ((ms0_8 t).view.loc (c : Thread nD τ) ↦[(ms0_8 t).view.set]{fullShare} (ms0_8 t).view.rep (iblk m c 8 t))
    ∗ ((ms0_9 t).view.loc (c : Thread nD τ) ↦[(ms0_9 t).view.set]{fullShare} (ms0_9 t).view.rep (iblk m c 9 t))
    ∗ ((ms0_10 t).view.loc (c : Thread nD τ) ↦[(ms0_10 t).view.set]{fullShare} (ms0_10 t).view.rep (iblk m c 10 t))
    ∗ ((ms0_11 t).view.loc (c : Thread nD τ) ↦[(ms0_11 t).view.set]{fullShare} (ms0_11 t).view.rep (iblk m c 11 t))
    ∗ ((ms0_12 t).view.loc (c : Thread nD τ) ↦[(ms0_12 t).view.set]{fullShare} (ms0_12 t).view.rep (iblk m c 12 t))
    ∗ ((ms0_13 t).view.loc (c : Thread nD τ) ↦[(ms0_13 t).view.set]{fullShare} (ms0_13 t).view.rep (iblk m c 13 t))
    ∗ ((ms0_14 t).view.loc (c : Thread nD τ) ↦[(ms0_14 t).view.set]{fullShare} (ms0_14 t).view.rep (iblk m c 14 t))
    ∗ ((ms0_15 t).view.loc (c : Thread nD τ) ↦[(ms0_15 t).view.set]{fullShare} (ms0_15 t).view.rep (iblk m c 15 t))
    ∗ ((ms0_16 t).view.loc (c : Thread nD τ) ↦[(ms0_16 t).view.set]{fullShare} (ms0_16 t).view.rep (iblk m c 16 t))
    ∗ ((ms0_17 t).view.loc (c : Thread nD τ) ↦[(ms0_17 t).view.set]{fullShare} (ms0_17 t).view.rep (iblk m c 17 t))
    ∗ ((ms0_18 t).view.loc (c : Thread nD τ) ↦[(ms0_18 t).view.set]{fullShare} (ms0_18 t).view.rep (iblk m c 18 t)))

abbrev tripG (v10 v27 : BitVec 32) (k : Fin k0_t1_loop.trips) (acc : BitVec 32 × BitVec 32 × BitVec 32 × BitVec 32 × BitVec 32 × BitVec 32 × BitVec 32) :=
  k0_t1_body (F := F) (ms0_0 t) (hs0_0 t) (ms0_1 t) (hs0_1 t) g1M (Memref.isWhole_whole _) g2M (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) oM (Memref.isWhole_whole _) ring1 (Memref.isWhole_whole _) cc0_scoped1 ring2 (Memref.isWhole_whole _) cc0_scoped3 ringO (Memref.isWhole_whole _) cc0_scoped5 v10 v27 k acc

/-! ## What a trip computes -/

/-- Block `b` of each large array, as the slot that holds it is read. -/
def blk1 (X1 : Buf (Elt F) (g1M.view.loc (c : Thread nD τ))) (b : Fin 50) : Vec F S1x200x10000 .f32 :=
  fun y => (gb1 b).view.read (Elt F) X1 ((Shape.reshapeEquiv squeezes_S1x200x10000_S200x10000.numel_eq).symm y)
def blk2 (X2 : Buf (Elt F) (g2M.view.loc (c : Thread nD τ))) (b : Fin 50) : Vec F S1x200x10000 .f32 :=
  fun y => (gb2 b).view.read (Elt F) X2 ((Shape.reshapeEquiv squeezes_S1x200x10000_S200x10000.numel_eq).symm y)

/-- The 200 result rows from a block of each array. -/
def rowsOf (A1 A2 : Vec F S1x200x10000 .f32) : FVec F S1x200x128 .f32 :=
  k0_pay5 (F := F)
    (k0_pay3 (k0_pay2 (iblk m c 0 t) A1 (iblk m c 2 t) (iblk m c 4 t) (iblk m c 5 t)) (iblk m c 6 t) (iblk m c 7 t) (iblk m c 8 t) (iblk m c 9 t))
    (k0_pay4 (k0_pay1 (iblk m c 1 t) A2 (iblk m c 3 t)) (iblk m c 10 t) (iblk m c 11 t) (iblk m c 12 t) (iblk m c 13 t) (iblk m c 14 t))
    (iblk m c 15 t) (iblk m c 16 t) (iblk m c 17 t) (iblk m c 18 t)

/-- The two large arrays at the body's entry. -/
def X1 : Buf (Elt F) (g1M.view.loc (c : Thread nD τ)) := V m c main_arg2
def X2 : Buf (Elt F) (g2M.view.loc (c : Thread nD τ)) := V m c main_arg3
/-- The result's array at the body's entry. -/
def XO : Buf (Elt F) (oM.view.loc (c : Thread nD τ)) := V m c main_v13

/-- The result's block `b`. -/
def outv (b : Fin 50) : S200x128.Idx → Elt F .f32 :=
  fun y => rowsOf m c t (blk1 c (X1 m c) b) (blk2 c (X2 m c) b) (Shape.reshapeEquiv squeezes_S1x200x128_S200x128.numel_eq y)

/-! ## What a slot's load reads, and what a slot's store leaves -/

section Reads

variable {Val : EltTy → Type} [∀ e, Nonempty (Val e)]

theorem read_slot1 (b : Fin 3) {off : Fin 3 → ℕ} (e : off = slot3 b) (inb) (f) (p : S200x10000.Idx → Val .f32) :
    ring1.view.readAt Val (Rect.unit (s := S3x200x10000) off S1x200x10000.size inb).toLoadRect ((rs1 b).view.writes Val f [⟨Rect.whole S200x10000, p⟩])
      = fun y => p ((Shape.reshapeEquiv squeezes_S1x200x10000_S200x10000.numel_eq).symm y) := by
  subst e
  funext y
  obtain ⟨z, rfl⟩ := (Shape.reshapeEquiv squeezes_S1x200x10000_S200x10000.numel_eq).surjective y
  rw [Equiv.symm_apply_apply]
  exact congrFun (View.read_writes_whole (rs1 b).view f p) z
theorem read_slot2 (b : Fin 3) {off : Fin 3 → ℕ} (e : off = slot3 b) (inb) (f) (p : S200x10000.Idx → Val .f32) :
    ring2.view.readAt Val (Rect.unit (s := S3x200x10000) off S1x200x10000.size inb).toLoadRect ((rs2 b).view.writes Val f [⟨Rect.whole S200x10000, p⟩])
      = fun y => p ((Shape.reshapeEquiv squeezes_S1x200x10000_S200x10000.numel_eq).symm y) := by
  subst e
  funext y
  obtain ⟨z, rfl⟩ := (Shape.reshapeEquiv squeezes_S1x200x10000_S200x10000.numel_eq).surjective y
  rw [Equiv.symm_apply_apply]
  exact congrFun (View.read_writes_whole (rs2 b).view f p) z
theorem read_stored (b : Fin 2) {off : Fin 3 → ℕ} (e : off = slot2 b) (inb) (f) (p : S1x200x128.Idx → Val .f32) :
    (rsO b).view.read Val (View.write Val (ringO.access (Rect.unit (s := S2x200x128) off S1x200x128.size inb)) f p Finset.univ)
      = fun y => p (Shape.reshapeEquiv squeezes_S1x200x128_S200x128.numel_eq y) := by
  subst e
  funext y
  exact congrFun (View.read_write_univ (v := ringO.access (Rect.unit (s := S2x200x128) (slot2 b) S1x200x128.size inb)) f p) _

end Reads

set_option backward.isDefEq.respectTransparency.types false in
/-- The stored rows are block `b` of the result, each staged operand read whole and each slot read as its block. -/
theorem outv_eq (b : Fin 50) (s3 : Fin 3) (s2 : Fin 2) (f1 f2) {o1 o2 o3 : Fin 3 → ℕ} (e1 : o1 = slot3 s3) (e2 : o2 = slot3 s3) (e3 : o3 = slot2 s2)
    (i1 i2 i3) (fo : Buf (Elt F) ((rsO s2).view.loc (c : Thread nD τ))) :
    (rsO s2).view.read (Elt F) (View.write (Elt F) (ringO.access (Rect.unit (s := S2x200x128) o3 S1x200x128.size i3)) fo
      (k0_pay5 (F := F)
        (k0_pay3 (k0_pay2
          ((ms0_0 t).view.readAt (Elt F) (Rect.unit (s := S1x1) ![0, 0] S1x1.size inb_S1x1_S1x1_0_0).toLoadRect ((ms0_0 t).view.rep (iblk m c 0 t)))
          (ring1.view.readAt (Elt F) (Rect.unit (s := S3x200x10000) o1 S1x200x10000.size i1).toLoadRect (landed1 c (X1 m c) s3 b f1))

          ((ms0_2 t).view.readAt (Elt F) (Rect.unit (s := S10000x128) ![0, 0] S10000x128.size inb_S10000x128_S10000x128_0_0).toLoadRect ((ms0_2 t).view.rep (iblk m c 2 t)))
          ((ms0_4 t).view.readAt (Elt F) (Rect.unit (s := S128x128) ![0, 0] S128x128.size inb_S128x128_S128x128_0_0).toLoadRect ((ms0_4 t).view.rep (iblk m c 4 t)))
          ((ms0_5 t).view.readAt (Elt F) (Rect.unit (s := S1x128) ![0, 0] S1x128.size inb_S1x128_S1x128_0_0).toLoadRect ((ms0_5 t).view.rep (iblk m c 5 t))))
          ((ms0_6 t).view.readAt (Elt F) (Rect.unit (s := S128x128) ![0, 0] S128x128.size inb_S128x128_S128x128_0_0).toLoadRect ((ms0_6 t).view.rep (iblk m c 6 t)))
          ((ms0_7 t).view.readAt (Elt F) (Rect.unit (s := S1x128) ![0, 0] S1x128.size inb_S1x128_S1x128_0_0).toLoadRect ((ms0_7 t).view.rep (iblk m c 7 t)))
          ((ms0_8 t).view.readAt (Elt F) (Rect.unit (s := S128x128) ![0, 0] S128x128.size inb_S128x128_S128x128_0_0).toLoadRect ((ms0_8 t).view.rep (iblk m c 8 t)))
          ((ms0_9 t).view.readAt (Elt F) (Rect.unit (s := S1x128) ![0, 0] S1x128.size inb_S1x128_S1x128_0_0).toLoadRect ((ms0_9 t).view.rep (iblk m c 9 t))))
        (k0_pay4 (k0_pay1
          ((ms0_1 t).view.readAt (Elt F) (Rect.unit (s := S1x1) ![0, 0] S1x1.size inb_S1x1_S1x1_0_0).toLoadRect ((ms0_1 t).view.rep (iblk m c 1 t)))
          (ring2.view.readAt (Elt F) (Rect.unit (s := S3x200x10000) o2 S1x200x10000.size i2).toLoadRect (landed2 c (X2 m c) s3 b f2))

          ((ms0_3 t).view.readAt (Elt F) (Rect.unit (s := S10000x128) ![0, 0] S10000x128.size inb_S10000x128_S10000x128_0_0).toLoadRect ((ms0_3 t).view.rep (iblk m c 3 t))))
          ((ms0_10 t).view.readAt (Elt F) (Rect.unit (s := S128x128) ![0, 0] S128x128.size inb_S128x128_S128x128_0_0).toLoadRect ((ms0_10 t).view.rep (iblk m c 10 t)))
          ((ms0_11 t).view.readAt (Elt F) (Rect.unit (s := S1x128) ![0, 0] S1x128.size inb_S1x128_S1x128_0_0).toLoadRect ((ms0_11 t).view.rep (iblk m c 11 t)))
          ((ms0_12 t).view.readAt (Elt F) (Rect.unit (s := S128x128) ![0, 0] S128x128.size inb_S128x128_S128x128_0_0).toLoadRect ((ms0_12 t).view.rep (iblk m c 12 t)))
          ((ms0_13 t).view.readAt (Elt F) (Rect.unit (s := S1x128) ![0, 0] S1x128.size inb_S1x128_S1x128_0_0).toLoadRect ((ms0_13 t).view.rep (iblk m c 13 t)))
          ((ms0_14 t).view.readAt (Elt F) (Rect.unit (s := S128x128) ![0, 0] S128x128.size inb_S128x128_S128x128_0_0).toLoadRect ((ms0_14 t).view.rep (iblk m c 14 t))))
          ((ms0_15 t).view.readAt (Elt F) (Rect.unit (s := S1x128) ![0, 0] S1x128.size inb_S1x128_S1x128_0_0).toLoadRect ((ms0_15 t).view.rep (iblk m c 15 t)))
          ((ms0_16 t).view.readAt (Elt F) (Rect.unit (s := S128x128) ![0, 0] S128x128.size inb_S128x128_S128x128_0_0).toLoadRect ((ms0_16 t).view.rep (iblk m c 16 t)))
          ((ms0_17 t).view.readAt (Elt F) (Rect.unit (s := S128x128) ![0, 0] S128x128.size inb_S128x128_S128x128_0_0).toLoadRect ((ms0_17 t).view.rep (iblk m c 17 t)))
          ((ms0_18 t).view.readAt (Elt F) (Rect.unit (s := S1x128) ![0, 0] S1x128.size inb_S1x128_S1x128_0_0).toLoadRect ((ms0_18 t).view.rep (iblk m c 18 t)))) Finset.univ) = outv m c t b := by
  refine (read_stored s2 e3 i3 fo _).trans ?_
  unfold landed1 landed2
  rw [read_slot1 s3 e1, read_slot2 s3 e2]
  rw [View.readAt_rep_full (ms0_0 t).view, View.readAt_rep_full (ms0_1 t).view, View.readAt_rep_full (ms0_2 t).view, View.readAt_rep_full (ms0_3 t).view, View.readAt_rep_full (ms0_4 t).view, View.readAt_rep_full (ms0_5 t).view, View.readAt_rep_full (ms0_6 t).view, View.readAt_rep_full (ms0_7 t).view, View.readAt_rep_full (ms0_8 t).view, View.readAt_rep_full (ms0_9 t).view, View.readAt_rep_full (ms0_10 t).view, View.readAt_rep_full (ms0_11 t).view, View.readAt_rep_full (ms0_12 t).view, View.readAt_rep_full (ms0_13 t).view, View.readAt_rep_full (ms0_14 t).view, View.readAt_rep_full (ms0_15 t).view, View.readAt_rep_full (ms0_16 t).view, View.readAt_rep_full (ms0_17 t).view, View.readAt_rep_full (ms0_18 t).view]
  rfl

/-! ## The array the result ends with -/

/-- The result's array: row `r` from block `r / 200`, at row `r % 200` of that block. -/
def GO : Buf (Elt F) (oM.view.loc (c : Thread nD τ)) :=
  fun (i : S10000x128.Idx) => outv m c t ⟨(i (0 : Fin 2)).val / 200, by have : (i (0 : Fin 2)).val < 10000 := (i (0 : Fin 2)).isLt; omega⟩
    (fun a => match a with
      | ⟨0, _⟩ => ⟨(i (0 : Fin 2)).val % 200, Nat.mod_lt _ (by decide)⟩
      | ⟨1, _⟩ => ⟨(i (1 : Fin 2)).val, (i (1 : Fin 2)).isLt⟩)

theorem GO_emb (b : Fin 50) (y : S200x128.Idx) : GO m c t ((ob b).view.emb y) = outv m c t b y := by
  have h0 : ((ob b).view.emb y (0 : Fin 2)).val = 200 * b.val + 1 * (y (0 : Fin 2)).val := rfl
  have h1 : ((ob b).view.emb y (1 : Fin 2)).val = 0 + 1 * (y (1 : Fin 2)).val := rfl
  have hy : (y (0 : Fin 2)).val < 200 := (y (0 : Fin 2)).isLt
  unfold GO
  have hb : (⟨((ob b).view.emb y (0 : Fin 2)).val / 200, by omega⟩ : Fin 50) = b := Fin.ext (by show ((ob b).view.emb y (0 : Fin 2)).val / 200 = b.val; omega)
  refine congr (congrArg (outv m c t) hb) (funext fun a => ?_)
  fin_cases a
  · exact Fin.ext (by show ((ob b).view.emb y (0 : Fin 2)).val % 200 = (y (0 : Fin 2)).val; omega)
  · exact Fin.ext (by show ((ob b).view.emb y (1 : Fin 2)).val = (y (1 : Fin 2)).val; omega)

/-- Block `b` landed is block `b` of the result's array. -/
theorem landed_out (b : Fin 50) (fd : Buf (Elt F) (oM.view.loc (c : Thread nD τ))) (p : S200x128.Idx → Elt F .f32) (hp : p = outv m c t b) :
    outP c ((ob b).view.writes (Elt F) fd [⟨Rect.whole S200x128, p⟩]) b ⊢ (outP c (GO m c t) b : sProp 𝕄) := by
  refine Entails.of_eq (pointsTo_congr fun i hi => ?_)
  obtain ⟨y, -, rfl⟩ := Finset.mem_map.mp hi
  rw [GO_emb, ← hp]
  exact congrFun (View.read_writes_whole (ob b).view fd p) y

/-! ## Before trip `k` -/

/-- The words before trip `k`. -/
def words (k : ℕ) : BitVec 32 × BitVec 32 × BitVec 32 × BitVec 32 × BitVec 32 × BitVec 32 × BitVec 32 :=
  (w (min (k + 2) 50), w k, w (min (k + 2) 50), w k, w k, w (k - 1), w (if k < 50 then k else 0))

/-- The result's slot of the block before: in flight with it, or free when there is none. -/
def flO (k : ℕ) : sProp 𝕄 :=
  if k = 0 then freeO c (Ring.sl 2 1) else
    iprop(∃ fs fd, ⌜(rsO (Ring.sl 2 (k - 1))).view.read (Elt F) fs = outv m c t (Ring.bk 50 (k - 1))⌝ ∗ flightPO c (Ring.sl 2 (k - 1)) (Ring.bk 50 (k - 1)) fs fd)

theorem flO_pos {k : ℕ} (h : k ≠ 0) : flO m c t k =
    iprop(∃ fs fd, ⌜(rsO (Ring.sl 2 (k - 1))).view.read (Elt F) fs = outv m c t (Ring.bk 50 (k - 1))⌝ ∗ flightPO c (Ring.sl 2 (k - 1)) (Ring.bk 50 (k - 1)) fs fd) := if_neg h

/-- Before trip `k`: the words; the staged operands; the waits; per large array the blocks at home, the slots of blocks
    `k` and `k + 1`, the third slot free; the slot for block `k` of the result, the other slot; the blocks of the
    result still to come and those landed. -/
def inv (k : ℕ) (acc : BitVec 32 × BitVec 32 × BitVec 32 × BitVec 32 × BitVec 32 × BitVec 32 × BitVec 32) : sProp 𝕄 := iprop(
    ⌜acc = words k⌝ ∗ wins m c t ∗ (∃ W, owes (c : Thread nD τ) 0 W)
    ∗ bigSep (Ring.homeSet (NB := 50) 2 k) (homeP1 c (X1 m c)) ∗ fl1 c (X1 m c) k ∗ fl1 c (X1 m c) (k + 1) ∗ free1 c (Ring.sl 3 (k + 2))
    ∗ bigSep (Ring.homeSet (NB := 50) 2 k) (homeP2 c (X2 m c)) ∗ fl2 c (X2 m c) k ∗ fl2 c (X2 m c) (k + 1) ∗ free2 c (Ring.sl 3 (k + 2))
    ∗ freeO c (Ring.sl 2 k) ∗ flO m c t k
    ∗ bigSep (Ring.rangeSet 50 k 50) (outP c (XO m c)) ∗ bigSep (Ring.rangeSet 50 0 (k - 1)) (outP c (GO m c t)))

theorem out_head (k : ℕ) (hk : k < 50) (f) :
    bigSep (Ring.rangeSet 50 k 50) (outP c f) = (iprop(outP c f (Ring.bk 50 k) ∗ bigSep (Ring.rangeSet 50 (k + 1) 50) (outP c f)) : sProp 𝕄) := by
  rw [Ring.bigSep_rangeSet_head hk hk]
  have e : (⟨k, hk⟩ : Fin 50) = Ring.bk 50 k := Fin.ext (Ring.bk_val hk).symm
  rw [e]
theorem out_last (k : ℕ) (hk : k ≤ 50) (h1 : 1 ≤ k) (f) :
    bigSep (Ring.rangeSet 50 0 k) (outP c f) = (iprop(outP c f (Ring.bk 50 (k - 1)) ∗ bigSep (Ring.rangeSet 50 0 (k - 1)) (outP c f)) : sProp 𝕄) := by
  rw [Ring.bigSep_rangeSet_last (by omega : 0 < k) (by omega)]
  have e : (⟨k - 1, by omega⟩ : Fin 50) = Ring.bk 50 (k - 1) := Fin.ext (Ring.bk_val (by omega)).symm
  rw [e]

end Cert.Proof.Run

end
-- ==== Proof.KernelRows.lean ====
/-
  The arrays the kernel's body reads, over the extended reals, as the arguments they are: a reshape, a slice or a change of
  format of an argument, or the argument itself, each staged whole; and a row of the result from them.
-/
module

public import proofs.«01_k».proof.Proof.RefRows
public import proofs.«01_k».proof.Proof.Trip
public import Idealize.ShloMosaic.Lib.ValueLayout

@[expose] public section

noncomputable section

namespace Cert.Proof.Rows

open Idealize.ShloMosaic Idealize.ShloMosaic.TcCoe Idealize.ShloMosaic.Tactic Cert.KernelIdeal Cert.KernelIdeal.Gen Cert.Proof.Run

variable (m : (ℓ : Loc nD τ sig) → Buf (Elt Ideal) ℓ) (c : Dev nD) (t : Fin cfg0.N)

/-! ## What the operations before the launch leave -/

theorem V_v0 : V m c main_v0 = shapeCast S1x1 (m ((c : Thread nD τ).loc main_arg4)) shapeCasts_S1_S1x1 := by
  show StableHlo.after hostOps0 _ (Proc.devRef .tc main_v0) = _
  after_results_simp <;> rfl
theorem V_v1 : V m c main_v1 = shapeCast S1x1 (m ((c : Thread nD τ).loc main_arg5)) shapeCasts_S1_S1x1 := by
  show StableHlo.after hostOps0 _ (Proc.devRef .tc main_v1) = _
  after_results_simp <;> rfl
theorem V_v2 : V m c main_v2 = extractStridedSlice S128x128 ![0, 0] (m ((c : Thread nD τ).loc main_arg18)) slices_S256x128_S128x128_0_0 := by
  show StableHlo.after hostOps0 _ (Proc.devRef .tc main_v2) = _
  after_results_simp <;> rfl
theorem V_v3 : V m c main_v3 = extractStridedSlice S128x128 ![128, 0] (m ((c : Thread nD τ).loc main_arg18)) slices_S256x128_S128x128_128_0 := by
  show StableHlo.after hostOps0 _ (Proc.devRef .tc main_v3) = _
  after_results_simp <;> rfl
theorem V_v4 : V m c main_v4 = (m ((c : Thread nD τ).loc main_arg0)) := by
  show StableHlo.after hostOps0 _ (Proc.devRef .tc main_v4) = _
  after_results_simp <;> rfl
theorem V_v5 : V m c main_v5 = (m ((c : Thread nD τ).loc main_arg1)) := by
  show StableHlo.after hostOps0 _ (Proc.devRef .tc main_v5) = _
  after_results_simp <;> rfl
theorem V_v6 : V m c main_v6 = shapeCast S1x128 (m ((c : Thread nD τ).loc main_arg7)) shapeCasts_S128_S1x128 := by
  show StableHlo.after hostOps0 _ (Proc.devRef .tc main_v6) = _
  after_results_simp <;> rfl
theorem V_v7 : V m c main_v7 = shapeCast S1x128 (m ((c : Thread nD τ).loc main_arg9)) shapeCasts_S128_S1x128 := by
  show StableHlo.after hostOps0 _ (Proc.devRef .tc main_v7) = _
  after_results_simp <;> rfl
theorem V_v8 : V m c main_v8 = shapeCast S1x128 (m ((c : Thread nD τ).loc main_arg11)) shapeCasts_S128_S1x128 := by
  show StableHlo.after hostOps0 _ (Proc.devRef .tc main_v8) = _
  after_results_simp <;> rfl
theorem V_v9 : V m c main_v9 = shapeCast S1x128 (m ((c : Thread nD τ).loc main_arg13)) shapeCasts_S128_S1x128 := by
  show StableHlo.after hostOps0 _ (Proc.devRef .tc main_v9) = _
  after_results_simp <;> rfl
theorem V_v10 : V m c main_v10 = shapeCast S1x128 (m ((c : Thread nD τ).loc main_arg15)) shapeCasts_S128_S1x128 := by
  show StableHlo.after hostOps0 _ (Proc.devRef .tc main_v10) = _
  after_results_simp <;> rfl
theorem V_v11 : V m c main_v11 = shapeCast S1x128 (m ((c : Thread nD τ).loc main_arg17)) shapeCasts_S128_S1x128 := by
  show StableHlo.after hostOps0 _ (Proc.devRef .tc main_v11) = _
  after_results_simp <;> rfl
theorem V_v12 : V m c main_v12 = shapeCast S1x128 (m ((c : Thread nD τ).loc main_arg19)) shapeCasts_S128_S1x128 := by
  show StableHlo.after hostOps0 _ (Proc.devRef .tc main_v12) = _
  after_results_simp <;> rfl

/-! ## The staged operands, read as arguments -/

theorem iblk_0 (y : S1x1.Idx) : iblk m c 0 t y = V m c main_v0 y :=
  congrArg (V m c main_v0) (funext fun a => by fin_cases a <;> exact Fin.ext (by show 0 + 1 * (y _).val = _; omega))
theorem iblk_1 (y : S1x1.Idx) : iblk m c 1 t y = V m c main_v1 y :=
  congrArg (V m c main_v1) (funext fun a => by fin_cases a <;> exact Fin.ext (by show 0 + 1 * (y _).val = _; omega))
theorem iblk_2 (y : S10000x128.Idx) : iblk m c 2 t y = V m c main_v4 y := by
  refine congrArg (V m c main_v4) (funext fun a => ?_)
  fin_cases a
  · exact Fin.ext (by show 0 * 10000 + 1 * (y 0).val = (y 0).val; omega)
  · exact Fin.ext (by show 0 + 1 * (y 1).val = (y 1).val; omega)
theorem iblk_3 (y : S10000x128.Idx) : iblk m c 3 t y = V m c main_v5 y := by
  refine congrArg (V m c main_v5) (funext fun a => ?_)
  fin_cases a
  · exact Fin.ext (by show 0 * 10000 + 1 * (y 0).val = (y 0).val; omega)
  · exact Fin.ext (by show 0 + 1 * (y 1).val = (y 1).val; omega)
theorem iblk_4 (y : S128x128.Idx) : iblk m c 4 t y = V m c main_arg6 y :=
  congrArg (V m c main_arg6) (funext fun a => by fin_cases a <;> exact Fin.ext (by show 0 + 1 * (y _).val = _; omega))
theorem iblk_5 (y : S1x128.Idx) : iblk m c 5 t y = V m c main_v6 y :=
  congrArg (V m c main_v6) (funext fun a => by fin_cases a <;> exact Fin.ext (by show 0 + 1 * (y _).val = _; omega))
theorem iblk_6 (y : S128x128.Idx) : iblk m c 6 t y = V m c main_arg8 y :=
  congrArg (V m c main_arg8) (funext fun a => by fin_cases a <;> exact Fin.ext (by show 0 + 1 * (y _).val = _; omega))
theorem iblk_7 (y : S1x128.Idx) : iblk m c 7 t y = V m c main_v7 y :=
  congrArg (V m c main_v7) (funext fun a => by fin_cases a <;> exact Fin.ext (by show 0 + 1 * (y _).val = _; omega))
theorem iblk_8 (y : S128x128.Idx) : iblk m c 8 t y = V m c main_arg10 y :=
  congrArg (V m c main_arg10) (funext fun a => by fin_cases a <;> exact Fin.ext (by show 0 + 1 * (y _).val = _; omega))
theorem iblk_9 (y : S1x128.Idx) : iblk m c 9 t y = V m c main_v8 y :=
  congrArg (V m c main_v8) (funext fun a => by fin_cases a <;> exact Fin.ext (by show 0 + 1 * (y _).val = _; omega))
theorem iblk_10 (y : S128x128.Idx) : iblk m c 10 t y = V m c main_arg12 y :=
  congrArg (V m c main_arg12) (funext fun a => by fin_cases a <;> exact Fin.ext (by show 0 + 1 * (y _).val = _; omega))
theorem iblk_11 (y : S1x128.Idx) : iblk m c 11 t y = V m c main_v9 y :=
  congrArg (V m c main_v9) (funext fun a => by fin_cases a <;> exact Fin.ext (by show 0 + 1 * (y _).val = _; omega))
theorem iblk_12 (y : S128x128.Idx) : iblk m c 12 t y = V m c main_arg14 y :=
  congrArg (V m c main_arg14) (funext fun a => by fin_cases a <;> exact Fin.ext (by show 0 + 1 * (y _).val = _; omega))
theorem iblk_13 (y : S1x128.Idx) : iblk m c 13 t y = V m c main_v10 y :=
  congrArg (V m c main_v10) (funext fun a => by fin_cases a <;> exact Fin.ext (by show 0 + 1 * (y _).val = _; omega))
theorem iblk_14 (y : S128x128.Idx) : iblk m c 14 t y = V m c main_arg16 y :=
  congrArg (V m c main_arg16) (funext fun a => by fin_cases a <;> exact Fin.ext (by show 0 + 1 * (y _).val = _; omega))
theorem iblk_15 (y : S1x128.Idx) : iblk m c 15 t y = V m c main_v11 y :=
  congrArg (V m c main_v11) (funext fun a => by fin_cases a <;> exact Fin.ext (by show 0 + 1 * (y _).val = _; omega))
theorem iblk_16 (y : S128x128.Idx) : iblk m c 16 t y = V m c main_v2 y :=
  congrArg (V m c main_v2) (funext fun a => by fin_cases a <;> exact Fin.ext (by show 0 + 1 * (y _).val = _; omega))
theorem iblk_17 (y : S128x128.Idx) : iblk m c 17 t y = V m c main_v3 y :=
  congrArg (V m c main_v3) (funext fun a => by fin_cases a <;> exact Fin.ext (by show 0 + 1 * (y _).val = _; omega))
theorem iblk_18 (y : S1x128.Idx) : iblk m c 18 t y = V m c main_v12 y :=
  congrArg (V m c main_v12) (funext fun a => by fin_cases a <;> exact Fin.ext (by show 0 + 1 * (y _).val = _; omega))

theorem eps_0 : iblk m c 0 t (ix2 0 0) = (m ((c : Thread nD τ).loc main_arg4)) (ix1 0) := by
  rw [iblk_0, V_v0]
  pointwise
theorem eps_1 : iblk m c 1 t (ix2 0 0) = (m ((c : Thread nD τ).loc main_arg5)) (ix1 0) := by
  rw [iblk_1, V_v1]
  pointwise
theorem mat_2 : mat (iblk m c 2 t) = mat (m ((c : Thread nD τ).loc main_arg0)) := by
  funext k j
  exact (iblk_2 m c t (ix2 k j)).trans (congrFun (V_v4 m c) _)
theorem mat_3 : mat (iblk m c 3 t) = mat (m ((c : Thread nD τ).loc main_arg1)) := by
  funext k j
  exact (iblk_3 m c t (ix2 k j)).trans (congrFun (V_v5 m c) _)
theorem mat_4 : mat (iblk m c 4 t) = mat (m ((c : Thread nD τ).loc main_arg6)) := by
  funext k j
  exact (iblk_4 m c t (ix2 k j)).trans (congrFun (V_main_arg6 m c) _)
theorem row_5 : row (iblk m c 5 t) = vec (m ((c : Thread nD τ).loc main_arg7)) := by
  funext j
  refine (iblk_5 m c t (ix2 0 j)).trans ((congrFun (V_v6 m c) _).trans ?_)
  pointwise [vec]
theorem mat_6 : mat (iblk m c 6 t) = mat (m ((c : Thread nD τ).loc main_arg8)) := by
  funext k j
  exact (iblk_6 m c t (ix2 k j)).trans (congrFun (V_main_arg8 m c) _)
theorem row_7 : row (iblk m c 7 t) = vec (m ((c : Thread nD τ).loc main_arg9)) := by
  funext j
  refine (iblk_7 m c t (ix2 0 j)).trans ((congrFun (V_v7 m c) _).trans ?_)
  pointwise [vec]
theorem mat_8 : mat (iblk m c 8 t) = mat (m ((c : Thread nD τ).loc main_arg10)) := by
  funext k j
  exact (iblk_8 m c t (ix2 k j)).trans (congrFun (V_main_arg10 m c) _)
theorem row_9 : row (iblk m c 9 t) = vec (m ((c : Thread nD τ).loc main_arg11)) := by
  funext j
  refine (iblk_9 m c t (ix2 0 j)).trans ((congrFun (V_v8 m c) _).trans ?_)
  pointwise [vec]
theorem mat_10 : mat (iblk m c 10 t) = mat (m ((c : Thread nD τ).loc main_arg12)) := by
  funext k j
  exact (iblk_10 m c t (ix2 k j)).trans (congrFun (V_main_arg12 m c) _)
theorem row_11 : row (iblk m c 11 t) = vec (m ((c : Thread nD τ).loc main_arg13)) := by
  funext j
  refine (iblk_11 m c t (ix2 0 j)).trans ((congrFun (V_v9 m c) _).trans ?_)
  pointwise [vec]
theorem mat_12 : mat (iblk m c 12 t) = mat (m ((c : Thread nD τ).loc main_arg14)) := by
  funext k j
  exact (iblk_12 m c t (ix2 k j)).trans (congrFun (V_main_arg14 m c) _)
theorem row_13 : row (iblk m c 13 t) = vec (m ((c : Thread nD τ).loc main_arg15)) := by
  funext j
  refine (iblk_13 m c t (ix2 0 j)).trans ((congrFun (V_v10 m c) _).trans ?_)
  pointwise [vec]
theorem mat_14 : mat (iblk m c 14 t) = mat (m ((c : Thread nD τ).loc main_arg16)) := by
  funext k j
  exact (iblk_14 m c t (ix2 k j)).trans (congrFun (V_main_arg16 m c) _)
theorem row_15 : row (iblk m c 15 t) = vec (m ((c : Thread nD τ).loc main_arg17)) := by
  funext j
  refine (iblk_15 m c t (ix2 0 j)).trans ((congrFun (V_v11 m c) _).trans ?_)
  pointwise [vec]
theorem mat_16 : mat (iblk m c 16 t) = fun k j => (m ((c : Thread nD τ).loc main_arg18)) (ix2 ⟨k.val, by omega⟩ j) := by
  funext k j
  refine (iblk_16 m c t (ix2 k j)).trans ((congrFun (V_v2 m c) _).trans ?_)
  pointwise
theorem mat_17 : mat (iblk m c 17 t) = fun k j => (m ((c : Thread nD τ).loc main_arg18)) (ix2 ⟨128 + k.val, by omega⟩ j) := by
  funext k j
  refine (iblk_17 m c t (ix2 k j)).trans ((congrFun (V_v3 m c) _).trans ?_)
  pointwise
theorem row_18 : row (iblk m c 18 t) = vec (m ((c : Thread nD τ).loc main_arg19)) := by
  funext j
  refine (iblk_18 m c t (ix2 0 j)).trans ((congrFun (V_v12 m c) _).trans ?_)
  pointwise [vec]

/-! ## A block of the large arrays, and the row of the result -/

theorem blk1_apply (b : Fin 50) (r : Fin 200) (l : Fin 10000) :
    blk1 c (X1 m c) b (ix3 0 r l) = m ((c : Thread nD τ).loc main_arg2) (ix2 ⟨200 * b.val + r.val, by omega⟩ l) := by
  have e : (Shape.reshapeEquiv squeezes_S1x200x10000_S200x10000.numel_eq).symm (ix3 0 r l : S1x200x10000.Idx) = (ix2 r l : S200x10000.Idx) := by
    rw [Equiv.symm_apply_eq]
    exact (ValueIdx.reshapeEquiv_ix2_1ab _ r l).symm
  unfold blk1
  rw [e]
  refine (congrFun (V_main_arg2 m c) _).trans (congrArg (m ((c : Thread nD τ).loc main_arg2)) (funext fun a => ?_))
  fin_cases a
  · exact Fin.ext (by show 200 * b.val + 1 * r.val = 200 * b.val + r.val; omega)
  · exact Fin.ext (by show 0 + 1 * l.val = l.val; omega)
theorem blk2_apply (b : Fin 50) (r : Fin 200) (l : Fin 10000) :
    blk2 c (X2 m c) b (ix3 0 r l) = m ((c : Thread nD τ).loc main_arg3) (ix2 ⟨200 * b.val + r.val, by omega⟩ l) := by
  have e : (Shape.reshapeEquiv squeezes_S1x200x10000_S200x10000.numel_eq).symm (ix3 0 r l : S1x200x10000.Idx) = (ix2 r l : S200x10000.Idx) := by
    rw [Equiv.symm_apply_eq]
    exact (ValueIdx.reshapeEquiv_ix2_1ab _ r l).symm
  unfold blk2
  rw [e]
  refine (congrFun (V_main_arg3 m c) _).trans (congrArg (m ((c : Thread nD τ).loc main_arg3)) (funext fun a => ?_))
  fin_cases a
  · exact Fin.ext (by show 200 * b.val + 1 * r.val = 200 * b.val + r.val; omega)
  · exact Fin.ext (by show 0 + 1 * l.val = l.val; omega)

/-- A branch: three layers of a row. -/
def branch (s : Fin 128 → EReal) (W W' W'' : Fin 128 → Fin 128 → EReal) (b b' b'' : Fin 128 → EReal) : Fin 128 → EReal :=
  layer (layer (layer s W b) W' b') W'' b''

/-- The two branches' rows mixed. -/
def mix (p q : Fin 128 → EReal) (U U' : Fin 128 → Fin 128 → EReal) (d : Fin 128 → EReal) (j : Fin 128) : EReal :=
  ((∑ k, p k * U k j) + ∑ k, q k * U' k j) + d j

/-- The 200 rows of a block, one of them read. -/
theorem rowsOf_apply (A1 A2 : Vec Ideal S1x200x10000 .f32) (r : Fin 200) (j : Fin 128) :
    rowsOf m c t A1 A2 (ix3 0 r j)
      = mix (branch (fun k => (2 + m ((c : Thread nD τ).loc main_arg4) (ix1 0)) * agg (fun l => A1 (ix3 0 r l)) (mat (m ((c : Thread nD τ).loc main_arg0))) k)
            (mat (m ((c : Thread nD τ).loc main_arg6))) (mat (m ((c : Thread nD τ).loc main_arg8))) (mat (m ((c : Thread nD τ).loc main_arg10)))
            (vec (m ((c : Thread nD τ).loc main_arg7))) (vec (m ((c : Thread nD τ).loc main_arg9))) (vec (m ((c : Thread nD τ).loc main_arg11))))
          (branch (fun k => (2 + m ((c : Thread nD τ).loc main_arg5) (ix1 0)) * agg (fun l => A2 (ix3 0 r l)) (mat (m ((c : Thread nD τ).loc main_arg1))) k)
            (mat (m ((c : Thread nD τ).loc main_arg12))) (mat (m ((c : Thread nD τ).loc main_arg14))) (mat (m ((c : Thread nD τ).loc main_arg16)))
            (vec (m ((c : Thread nD τ).loc main_arg13))) (vec (m ((c : Thread nD τ).loc main_arg15))) (vec (m ((c : Thread nD τ).loc main_arg17))))
          (fun k j => m ((c : Thread nD τ).loc main_arg18) (ix2 ⟨k.val, by omega⟩ j)) (fun k j => m ((c : Thread nD τ).loc main_arg18) (ix2 ⟨128 + k.val, by omega⟩ j))
          (vec (m ((c : Thread nD τ).loc main_arg19))) j := by
  unfold rowsOf
  rw [pay5_apply]
  simp only [pay3_apply, pay2_apply, pay4_apply, pay1_apply]
  rw [eps_0, eps_1, mat_2, mat_3, mat_4, row_5, mat_6, row_7, mat_8, row_9, mat_10, row_11, mat_12, row_13, mat_14, row_15, mat_16, mat_17, row_18]
  rfl

/-- The kernel's result, one row and one column read. -/
theorem GO_apply (r : Fin 10000) (j : Fin 128) :
    GO m c t (ix2 r j)
      = mix (branch (fun k => (2 + m ((c : Thread nD τ).loc main_arg4) (ix1 0)) * agg (fun l => m ((c : Thread nD τ).loc main_arg2) (ix2 r l)) (mat (m ((c : Thread nD τ).loc main_arg0))) k)
            (mat (m ((c : Thread nD τ).loc main_arg6))) (mat (m ((c : Thread nD τ).loc main_arg8))) (mat (m ((c : Thread nD τ).loc main_arg10)))
            (vec (m ((c : Thread nD τ).loc main_arg7))) (vec (m ((c : Thread nD τ).loc main_arg9))) (vec (m ((c : Thread nD τ).loc main_arg11))))
          (branch (fun k => (2 + m ((c : Thread nD τ).loc main_arg5) (ix1 0)) * agg (fun l => m ((c : Thread nD τ).loc main_arg3) (ix2 r l)) (mat (m ((c : Thread nD τ).loc main_arg1))) k)
            (mat (m ((c : Thread nD τ).loc main_arg12))) (mat (m ((c : Thread nD τ).loc main_arg14))) (mat (m ((c : Thread nD τ).loc main_arg16)))
            (vec (m ((c : Thread nD τ).loc main_arg13))) (vec (m ((c : Thread nD τ).loc main_arg15))) (vec (m ((c : Thread nD τ).loc main_arg17))))
          (fun k j => m ((c : Thread nD τ).loc main_arg18) (ix2 ⟨k.val, by omega⟩ j)) (fun k j => m ((c : Thread nD τ).loc main_arg18) (ix2 ⟨128 + k.val, by omega⟩ j))
          (vec (m ((c : Thread nD τ).loc main_arg19))) j := by
  have hb : r.val / 200 < 50 := by omega
  have hr : r.val % 200 < 200 := Nat.mod_lt _ (by decide)
  have hi : (fun a => match a with
      | ⟨0, _⟩ => ⟨r.val % 200, hr⟩
      | ⟨1, _⟩ => ⟨j.val, j.isLt⟩ : S200x128.Idx) = ix2 ⟨r.val % 200, hr⟩ j := funext fun a => by fin_cases a <;> rfl
  have e : GO m c t (ix2 r j) = rowsOf m c t (blk1 c (X1 m c) ⟨r.val / 200, hb⟩) (blk2 c (X2 m c) ⟨r.val / 200, hb⟩) (ix3 0 ⟨r.val % 200, hr⟩ j) := by
    show outv m c t ⟨r.val / 200, hb⟩ (fun a => match a with
      | ⟨0, _⟩ => ⟨r.val % 200, hr⟩
      | ⟨1, _⟩ => ⟨j.val, j.isLt⟩ : S200x128.Idx) = _
    rw [hi]
    exact congrArg (rowsOf m c t _ _) (ValueIdx.reshapeEquiv_ix2_1ab _ _ _)
  rw [e, rowsOf_apply]
  have hq : (⟨200 * (r.val / 200) + r.val % 200, by omega⟩ : Fin 10000) = r := Fin.ext (Nat.div_add_mod r.val 200)
  simp only [blk1_apply, blk2_apply, hq]

end Cert.Proof.Rows

end
-- ==== Proof.Scale.lean ====
/-
  The one equation the two programs' arithmetic turns on: scaling a sum by `2 + eps` is adding `1 + eps` times it to it,
  when `eps` is at least minus one or the sum is a real number; and when the precondition gives one of the two.
-/
module

public import proofs.«01_k».proof.Proof.Payloads
public import proofs.«01_k».proof.Pre_scalable
public import Idealize.ShloMosaic.Lib.ReduceAll

@[expose] public section

noncomputable section

namespace Cert.Proof.Rows

open Idealize.ShloMosaic

/-- The factor regrouped as one plus a number that is not negative: multiplication distributes over that sum. -/
theorem scale_of_ge {e : EReal} (h : -1 ≤ e) (x : EReal) : (2 + e) * x = x + (1 + e) * x := by
  have h1 : (0 : EReal) ≤ 1 + e := by
    have := add_le_add_right h (1 : EReal)
    rwa [show (1 : EReal) + -1 = 0 by rw [← EReal.coe_one, ← EReal.coe_neg, ← EReal.coe_add]; simp] at this
  have h2 : (2 : EReal) + e = 1 + (1 + e) := by rw [← add_assoc]; norm_num
  rw [h2, EReal.right_distrib_of_nonneg zero_le_one h1, one_mul]

/-- At a real number, whatever the factor. -/
theorem scale_of_real (e : EReal) (x : ℝ) : (2 + e) * (x : EReal) = x + (1 + e) * x := by
  induction e using EReal.rec with
  | bot =>
    rw [EReal.add_bot, EReal.add_bot]
    rcases lt_trichotomy x 0 with h | h | h
    · rw [EReal.bot_mul_coe_of_neg h, EReal.coe_add_top]
    · subst h; simp
    · rw [EReal.bot_mul_coe_of_pos h, EReal.add_bot]
  | coe e =>
    rw [show (2 : EReal) = ((2 : ℝ) : EReal) by norm_cast]
    norm_cast
    ring
  | top =>
    rw [show (2 : EReal) + ⊤ = ⊤ from EReal.coe_add_top 2, show (1 : EReal) + ⊤ = ⊤ from EReal.coe_add_top 1]
    rcases lt_trichotomy x 0 with h | h | h
    · rw [EReal.top_mul_coe_of_neg h, EReal.add_bot]
    · subst h; simp
    · rw [EReal.top_mul_coe_of_pos h, EReal.coe_add_top]

/-- A finite extended real is a real. -/
theorem real_of_abs_lt {x : EReal} (h : max x (-x) < ⊤) : ∃ r : ℝ, x = r := by
  induction x using EReal.rec with
  | bot => simp at h
  | coe r => exact ⟨r, rfl⟩
  | top => simp at h

/-- A row of reals times a matrix of reals is real. -/
theorem agg_real {a : Fin 10000 → EReal} {x : Fin 10000 → Fin 128 → EReal} (ha : ∀ l, ∃ r : ℝ, a l = r) (hx : ∀ l j, ∃ r : ℝ, x l j = r)
    (j : Fin 128) : ∃ r : ℝ, agg a x j = r := by
  refine Finset.sum_induction _ (fun s : EReal => ∃ r : ℝ, s = r) ?_ ⟨0, rfl⟩ fun l _ => ?_
  · rintro _ _ ⟨p, rfl⟩ ⟨q, rfl⟩
    exact ⟨p + q, (EReal.coe_add p q).symm⟩
  · obtain ⟨p, hp⟩ := ha l
    obtain ⟨q, hq⟩ := hx l j
    exact ⟨p * q, by rw [hp, hq, EReal.coe_mul]⟩

/-- The condition under which a branch scales: `eps` at least minus one, or its features and weights all finite. -/
def Scales (X : (⟨2, ![10000, 128]⟩ : Shape).Idx → EReal) (A : (⟨2, ![10000, 10000]⟩ : Shape).Idx → EReal) (e : EReal) : Prop :=
  -1 ≤ e ∨ ((∀ i, ∃ r : ℝ, X i = r) ∧ ∀ i, ∃ r : ℝ, A i = r)

theorem Scales.eq {X A} {e : EReal} (h : Scales X A e) (r : Fin 10000) (j : Fin 128) :
    (2 + e) * agg (fun l => A (ix2 r l)) (mat X) j = agg (fun l => A (ix2 r l)) (mat X) j + (1 + e) * agg (fun l => A (ix2 r l)) (mat X) j := by
  rcases h with h | ⟨hX, hA⟩
  · exact scale_of_ge h _
  · obtain ⟨s, hs⟩ := agg_real (a := fun l => A (ix2 r l)) (x := mat X) (fun l => hA _) (fun l j => hX _) j
    rw [hs]
    exact scale_of_real e s

end Cert.Proof.Rows

/-! ## The precondition read back -/

namespace Cert.Proof.Rows

open Idealize.ShloMosaic Cert.Pre_scalable

theorem preFacts : Cert.Pre_scalable.Facts where
  bcast_S_S10000x128 := by decide
  reducesTo_S10000x128_S_d0_1 := by decide
  h_S_ := by decide
  bcast_S_S10000x10000 := by decide
  reducesTo_S10000x10000_S_d0_1 := by decide
  shapeCasts_S1_S_ := by decide

theorem inf_f32 : Ideal.ofBits .f32 0x7F800000#32 = ⊤ := by
  simp [Ideal.ofBits, Ideal.ieee]

theorem neg_one_f32 : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

/-- A comparison that came out one holds. -/
theorem lt_of_cmp {x y : EReal} (h : Ideal.cmp .olt x y = 1#1) : x < y := by
  by_contra hn
  simp [Ideal.cmp, hn] at h
theorem le_of_cmp {x y : EReal} (h : Ideal.cmp .oge x y = 1#1) : y ≤ x := by
  by_contra hn
  simp [Ideal.cmp, hn] at h

attribute [local instance] preFacts

instance : Subsingleton S_.Idx := ⟨fun a b => funext fun i => i.elim0⟩

/-- One array's test of finiteness, passed. -/
theorem finite_of_all {s : Shape} (x : FVec Ideal s .f32) (hb : S_.BroadcastsInDim s (![] : Fin 0 → Fin s.rank)) {axes : List (Fin s.rank)}
    (hr : s.ReducesTo axes S_) (h0 : 0 < S_.numel) (j : S_.Idx)
    (h : Host.reduce IntOp.andi (cmpf .olt (Host.absf x) (broadcastInDim s ![] hb (constant S_ .f32 0x7F800000#32))) (constantI S_ 1 1#1) hr h0 j = 1#1)
    (i : s.Idx) : ∃ r : ℝ, x i = r := by
  have e := lt_of_cmp (show Ideal.cmp .olt (max (x i) (-(x i))) (Ideal.ofBits .f32 0x7F800000#32) = 1#1 from Host.reduce_andi_all _ _ hr h0 j h i)
  rw [inf_f32] at e
  exact real_of_abs_lt e

/-- One branch's test, passed. -/
theorem scales_of_test (X : FVec Ideal S10000x128 .f32) (A : FVec Ideal S10000x10000 .f32) (e : FVec Ideal S1 .f32) (j : S_.Idx)
    (h : ori (cmpf .oge (shapeCast S_ e Facts.shapeCasts_S1_S_) (constant S_ .f32 0xBF800000#32))
        (andi (Host.reduce IntOp.andi (cmpf .olt (Host.absf X) (broadcastInDim S10000x128 ![] Facts.bcast_S_S10000x128 (constant S_ .f32 0x7F800000#32))) (constantI S_ 1 1#1) Facts.reducesTo_S10000x128_S_d0_1 Facts.h_S_)
          (Host.reduce IntOp.andi (cmpf .olt (Host.absf A) (broadcastInDim S10000x10000 ![] Facts.bcast_S_S10000x10000 (constant S_ .f32 0x7F800000#32))) (constantI S_ 1 1#1) Facts.reducesTo_S10000x10000_S_d0_1 Facts.h_S_)) j = 1#1) :
    Scales X A (e (ix1 0)) := by
  rcases IntOp.ori_eq_one.1 h with h | h
  · refine .inl ?_
    have := le_of_cmp (show Ideal.cmp .oge (shapeCast S_ e Facts.shapeCasts_S1_S_ j) (Ideal.ofBits .f32 0xBF800000#32) = 1#1 from h)
    rw [neg_one_f32] at this
    have hi : shapeCast S_ e Facts.shapeCasts_S1_S_ j = e (ix1 0) := congrArg e (funext fun a => by fin_cases a; exact Fin.ext (by have := ((Shape.reshapeEquiv Facts.shapeCasts_S1_S_ : S_.Idx ≃ S1.Idx) j 0).isLt; show _ = 0; exact Nat.lt_one_iff.1 this))
    rwa [hi] at this
  · obtain ⟨h1, h2⟩ := IntOp.andi_eq_one.1 h
    exact .inr ⟨finite_of_all X _ _ _ j h1, finite_of_all A _ _ _ j h2⟩

end Cert.Proof.Rows

end
-- ==== Proof.Same.lean ====
/-
  The kernel's two programs, over machine words and over the extended reals, have the same text: part by part they are
  the same program at any float values.
-/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

set_option maxHeartbeats 400000

/-- The part up to the loop, which starts the first copies. -/
theorem head_same : Cert.Kernel.k0_part6 (F := F) = Cert.KernelIdeal.k0_part6 (F := F) := rfl

/-- The loop over the blocks of rows. -/
theorem loop_same : Cert.Kernel.k0_part7 (F := F) = Cert.KernelIdeal.k0_part7 (F := F) := rfl

/-- The whole body. -/
theorem outer : Cert.Kernel.cc0__outer (F := F) = Cert.KernelIdeal.cc0__outer (F := F) := by
  unfold Cert.Kernel.cc0__outer Cert.KernelIdeal.cc0__outer
  rw [head_same, loop_same]
  rfl

/-- The two tables of bodies. -/
theorem defs0_same : Cert.Kernel.defs₀ (F := F) = Cert.KernelIdeal.defs₀ (F := F) := by
  unfold Cert.Kernel.defs₀ Cert.KernelIdeal.defs₀
  refine congrArg Defs.onTc (funext fun l => ?_)
  match l with
  | 0 => exact funext fun ts => by rw [outer]

/-- The two tables of definitions. -/
theorem defs_same : Cert.Kernel.defs (F := F) = Cert.KernelIdeal.defs (F := F) := by
  unfold Cert.Kernel.defs Cert.KernelIdeal.defs
  rw [defs0_same]
  rfl

/-- The two whole programs. -/
theorem main_same : Cert.Kernel.main (F := F) = Cert.KernelIdeal.main (F := F) := rfl

end Cert.Proof.Same

end
-- ==== Proof.TripMid.lean ====
/-
  A trip between the first and the last two.
-/
module

public import proofs.«01_k».proof.Proof.Trip

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (c : Dev nD) (t : Fin cfg0.N)

set_option maxHeartbeats 2000000 in
theorem tripMid (v10 v27 : BitVec 32) (k : Fin k0_t1_loop.trips) (hk48 : k.val < 48) (h1 : 1 ≤ k.val) (acc) :
    inv m c t k.val acc ⊢ wp frame (wpE (defs₀ (F := F)) Variants.none (c : Thread nD τ) none) Set.univ
        (tripG t v10 v27 k acc) (inv m c t (k.val + 1)) := by
  have hk50 : k.val < 50 := lt50 k
  have hkm : k.val - 1 < 50 := by omega
  have hw : words k.val = (w (k.val + 2), w k.val, w (k.val + 2), w k.val, w k.val, w (k.val - 1), w k.val) := by
    unfold words
    rw [if_pos hk50, show min (k.val + 2) 50 = k.val + 2 by omega]
  have hc1 := chk1_holds k
  rw [show min (k.val + 2) 50 = k.val + 2 by omega] at hc1
  have hc2 := chk2_holds k
  have hc3 := chk3_holds k
  have hc4 := chk4_holds k
  have hk52 : k.val + 2 < 50 := by omega
  have hd3 := (cond3_iff k).2 hk48
  have hd4 := (cond4_iff k).2 hk48
  have hd5 := cond5_holds k
  have hd6 := cond6_holds k
  have hd10 := cond10_holds k
  have hd13 := (cond13_iff k).2 h1
  have e3 : Ring.sl 3 (k.val + 1 + 2) = Ring.sl 3 k.val := Ring.sl_add 3 k.val
  have e2 : Ring.sl 2 (k.val + 1) = Ring.sl 2 (k.val - 1) := by
    have := Ring.sl_add 2 (k.val - 1)
    rwa [show k.val - 1 + 2 = k.val + 1 by omega] at this
  unfold inv
  rw [e3, out_head c k.val hk50, fl1_lt c _ hk50, fl2_lt c _ hk50, flO_pos m c t (by omega : k.val + 1 ≠ 0), Nat.add_sub_cancel, out_last c k.val hk50.le h1, e2, flO_pos m c t (by omega : k.val ≠ 0),
    homes_here _ k.val hk52, homes_here _ k.val hk52, homes_next _ k.val hk52, homes_next _ k.val hk52,
    fl1_lt c _ (by omega : k.val + 1 + 1 < 50), fl2_lt c _ (by omega : k.val + 1 + 1 < 50)]
  unfold wins free1 free2 freeO
  iintro ⟨%hacc, ⟨Hw0, Hw1, Hw2, Hw3, Hw4, Hw5, Hw6, Hw7, Hw8, Hw9, Hw10, Hw11, Hw12, Hw13, Hw14, Hw15, Hw16, Hw17, Hw18⟩, ⟨%W, HW⟩, ⟨Hg1, Hh1⟩, ⟨%f1, HF1⟩, Hn1, ⟨⟨%fa1, Ha1⟩, Hc1⟩, ⟨Hg2, Hh2⟩, ⟨%f2, HF2⟩, Hn2, ⟨⟨%fa2, Ha2⟩, Hc2⟩, ⟨⟨%fo, Ho⟩, Hco⟩, ⟨%fs, %fd, %hfs, HFo⟩, ⟨Hob, Hahead⟩, Hdone⟩
  obtain rfl := hacc.trans hw
  dsimp only [tripG]
  sl_unfold [k0_t1_body]
  sl_exec
  sl_step
  isplitl []
  · ipureintro
    have hk := (by decide +kernel : ∀ k : Fin k0_t1_loop.trips, k.val < 48 → 1 ≤ k.val →
      tripMid.sl.v115_r0 k = w (min (k.val + 1 + 2) 50) ∧ tripMid.sl.v92_r0 k = w (k.val + 1) ∧ tripMid.sl.v274_r0 k = w k.val ∧ tripMid.sl.v94_r0 k = w (if k.val + 1 < 50 then k.val + 1 else 0)) k hk48 h1
    unfold words
    rw [hk.1, hk.2.1, hk.2.2.1, hk.2.2.2, Nat.add_sub_cancel]
  isplitl [Hw0 Hw1 Hw2 Hw3 Hw4 Hw5 Hw6 Hw7 Hw8 Hw9 Hw10 Hw11 Hw12 Hw13 Hw14 Hw15 Hw16 Hw17 Hw18]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    iexact Hw18
  isplitl [HW]; · iexists _; iexact HW
  isplitl [HF1_src Hh1]
  · isplitl [HF1_src]; · iexact HF1_src
    iexact Hh1
  isplitl [Hn1]; · iexact Hn1
  isplitl [Hc1]; · iexists fa1; iexact Hc1
  isplitl [HF1_dst HF1]
  · isplitl [HF1_dst]; · iexists _; iexact HF1_dst
    iexact HF1
  isplitl [HF2_src Hh2]
  · isplitl [HF2_src]; · iexact HF2_src
    iexact Hh2
  isplitl [Hn2]; · iexact Hn2
  isplitl [Hc2]; · iexists fa2; iexact Hc2
  isplitl [HF2_dst HF2]
  · isplitl [HF2_dst]; · iexists _; iexact HF2_dst
    iexact HF2
  isplitl [HFo_src HFo]
  · isplitl [HFo_src]; · iexists _; iexact HFo_src
    iexact HFo
  isplitl [Hco]
  · iexists (tripMid.sl.Ho_w1 m c t k hc2 hc3 hc4 fo), (XO m c)
    isplitl []
    · ipureintro
      exact outv_eq m c t (Ring.bk 50 k.val) (Ring.sl 3 k.val) (Ring.sl 2 k.val) _ _ (off21_eq _ hk50) (off22_eq _ hk50) (off23_eq _ hk50) _ _ _ _
    · iexact Hco
  isplitl [Hahead]; · iexact Hahead
  isplitl [HFo_dst]
  · iapply (landed_out m c t (Ring.bk 50 (k.val - 1)) fd _ hfs)
    iexact HFo_dst
  iexact Hdone

end Cert.Proof.Run

end
-- ==== Proof.TripFirst.lean ====
/-
  The first trip: no result is awaited.
-/
module

public import proofs.«01_k».proof.Proof.Trip

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (c : Dev nD) (t : Fin cfg0.N)

set_option maxHeartbeats 2000000 in
theorem tripFirst (v10 v27 : BitVec 32) (k : Fin k0_t1_loop.trips) (h0 : k.val = 0) (hk48 : k.val < 48) (acc) :
    inv m c t k.val acc ⊢ wp frame (wpE (defs₀ (F := F)) Variants.none (c : Thread nD τ) none) Set.univ
        (tripG t v10 v27 k acc) (inv m c t (k.val + 1)) := by
  have hk50 : k.val < 50 := lt50 k
  have hkm : k.val - 1 < 50 := by omega
  have hw : words k.val = (w (k.val + 2), w k.val, w (k.val + 2), w k.val, w k.val, w (k.val - 1), w k.val) := by
    unfold words
    rw [if_pos hk50, show min (k.val + 2) 50 = k.val + 2 by omega]
  have hc1 := chk1_holds k
  rw [show min (k.val + 2) 50 = k.val + 2 by omega] at hc1
  have hc2 := chk2_holds k
  have hc3 := chk3_holds k
  have hc4 := chk4_holds k
  have hk52 : k.val + 2 < 50 := by omega
  have hd3 := (cond3_iff k).2 hk48
  have hd4 := (cond4_iff k).2 hk48
  have hd5 := cond5_holds k
  have hd6 := cond6_holds k
  have hd10 := cond10_holds k
  have hd13 : ¬ k0_cond13 k (w k.val) = 1#1 := fun h => by have := (cond13_iff k).1 h; omega
  have e3 : Ring.sl 3 (k.val + 1 + 2) = Ring.sl 3 k.val := Ring.sl_add 3 k.val
  unfold inv
  rw [e3, out_head c k.val hk50, fl1_lt c _ hk50, fl2_lt c _ hk50, flO_pos m c t (by omega : k.val + 1 ≠ 0), Nat.add_sub_cancel,
    homes_here _ k.val hk52, homes_here _ k.val hk52, homes_next _ k.val hk52, homes_next _ k.val hk52,
    fl1_lt c _ (by omega : k.val + 1 + 1 < 50), fl2_lt c _ (by omega : k.val + 1 + 1 < 50)]
  have e0 : flO m c t k.val = freeO c (Ring.sl 2 (k.val + 1)) := by rw [h0]; rfl
  rw [e0, show Ring.rangeSet 50 0 (k.val - 1) = Ring.rangeSet 50 0 k.val by rw [h0]]
  unfold wins free1 free2 freeO
  iintro ⟨%hacc, ⟨Hw0, Hw1, Hw2, Hw3, Hw4, Hw5, Hw6, Hw7, Hw8, Hw9, Hw10, Hw11, Hw12, Hw13, Hw14, Hw15, Hw16, Hw17, Hw18⟩, ⟨%W, HW⟩, ⟨Hg1, Hh1⟩, ⟨%f1, HF1⟩, Hn1, ⟨⟨%fa1, Ha1⟩, Hc1⟩, ⟨Hg2, Hh2⟩, ⟨%f2, HF2⟩, Hn2, ⟨⟨%fa2, Ha2⟩, Hc2⟩, ⟨⟨%fo, Ho⟩, Hco⟩, Hlo, ⟨Hob, Hahead⟩, Hdone⟩
  obtain rfl := hacc.trans hw
  dsimp only [tripG]
  sl_unfold [k0_t1_body]
  sl_exec
  sl_step
  isplitl []
  · ipureintro
    have hk := (by decide +kernel : ∀ k : Fin k0_t1_loop.trips, k.val = 0 → k.val < 48 →
      tripFirst.sl.v115_r0 k = w (min (k.val + 1 + 2) 50) ∧ tripFirst.sl.v92_r0 k = w (k.val + 1) ∧ tripFirst.sl.v274_r0 k = w k.val ∧ tripFirst.sl.v94_r0 k = w (if k.val + 1 < 50 then k.val + 1 else 0)) k h0 hk48
    unfold words
    rw [hk.1, hk.2.1, hk.2.2.1, hk.2.2.2, Nat.add_sub_cancel]
  isplitl [Hw0 Hw1 Hw2 Hw3 Hw4 Hw5 Hw6 Hw7 Hw8 Hw9 Hw10 Hw11 Hw12 Hw13 Hw14 Hw15 Hw16 Hw17 Hw18]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    iexact Hw18
  isplitl [HW]; · iexists _; iexact HW
  isplitl [HF1_src Hh1]
  · isplitl [HF1_src]; · iexact HF1_src
    iexact Hh1
  isplitl [Hn1]; · iexact Hn1
  isplitl [Hc1]; · iexists fa1; iexact Hc1
  isplitl [HF1_dst HF1]
  · isplitl [HF1_dst]; · iexists _; iexact HF1_dst
    iexact HF1
  isplitl [HF2_src Hh2]
  · isplitl [HF2_src]; · iexact HF2_src
    iexact Hh2
  isplitl [Hn2]; · iexact Hn2
  isplitl [Hc2]; · iexists fa2; iexact Hc2
  isplitl [HF2_dst HF2]
  · isplitl [HF2_dst]; · iexists _; iexact HF2_dst
    iexact HF2
  isplitl [Hlo]; · iexact Hlo
  isplitl [Hco]
  · iexists (tripFirst.sl.Ho_w1 m c t k hc2 hc3 hc4 fo), (XO m c)
    isplitl []
    · ipureintro
      exact outv_eq m c t (Ring.bk 50 k.val) (Ring.sl 3 k.val) (Ring.sl 2 k.val) _ _ (off21_eq _ hk50) (off22_eq _ hk50) (off23_eq _ hk50) _ _ _ _
    · iexact Hco
  isplitl [Hahead]; · iexact Hahead
  iexact Hdone

end Cert.Proof.Run

end
-- ==== Proof.TripTail.lean ====
/-
  The last two trips: no block is sent for.
-/
module

public import proofs.«01_k».proof.Proof.Trip

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (c : Dev nD) (t : Fin cfg0.N)

set_option maxHeartbeats 2000000 in
theorem tripTail (v10 v27 : BitVec 32) (k : Fin k0_t1_loop.trips) (hk48 : ¬ k.val < 48) (h1 : 1 ≤ k.val) (acc) :
    inv m c t k.val acc ⊢ wp frame (wpE (defs₀ (F := F)) Variants.none (c : Thread nD τ) none) Set.univ
        (tripG t v10 v27 k acc) (inv m c t (k.val + 1)) := by
  have hk50 : k.val < 50 := lt50 k
  have hkm : k.val - 1 < 50 := by omega
  have hw : words k.val = (w 50, w k.val, w 50, w k.val, w k.val, w (k.val - 1), w k.val) := by
    unfold words
    rw [if_pos hk50, show min (k.val + 2) 50 = 50 by omega]
  have hc1 := chk1_holds k
  rw [show min (k.val + 2) 50 = 50 by omega] at hc1
  have hc2 := chk2_holds k
  have hc3 := chk3_holds k
  have hc4 := chk4_holds k
  have hd3 := fun h => hk48 ((cond3_iff k).1 h)
  have hd4 := fun h => hk48 ((cond4_iff k).1 h)
  have hd5 := cond5_holds k
  have hd6 := cond6_holds k
  have hd10 := cond10_holds k
  have hd13 := (cond13_iff k).2 h1
  have e3 : Ring.sl 3 (k.val + 1 + 2) = Ring.sl 3 k.val := Ring.sl_add 3 k.val
  have e2 : Ring.sl 2 (k.val + 1) = Ring.sl 2 (k.val - 1) := by
    have := Ring.sl_add 2 (k.val - 1)
    rwa [show k.val - 1 + 2 = k.val + 1 by omega] at this
  unfold inv
  rw [e3, out_head c k.val hk50, fl1_lt c _ hk50, fl2_lt c _ hk50, flO_pos m c t (by omega : k.val + 1 ≠ 0), Nat.add_sub_cancel, out_last c k.val hk50.le h1, e2, flO_pos m c t (by omega : k.val ≠ 0),
    homes_tail _ k.val (by omega) hk50, homes_tail _ k.val (by omega) hk50, fl1_ge c _ (by omega : ¬ k.val + 1 + 1 < 50), fl2_ge c _ (by omega : ¬ k.val + 1 + 1 < 50)]
  unfold wins freeO
  iintro ⟨%hacc, ⟨Hw0, Hw1, Hw2, Hw3, Hw4, Hw5, Hw6, Hw7, Hw8, Hw9, Hw10, Hw11, Hw12, Hw13, Hw14, Hw15, Hw16, Hw17, Hw18⟩, ⟨%W, HW⟩, Hh1, ⟨%f1, HF1⟩, Hn1, Hfr1, Hh2, ⟨%f2, HF2⟩, Hn2, Hfr2, ⟨⟨%fo, Ho⟩, Hco⟩, ⟨%fs, %fd, %hfs, HFo⟩, ⟨Hob, Hahead⟩, Hdone⟩
  obtain rfl := hacc.trans hw
  dsimp only [tripG]
  sl_unfold [k0_t1_body]
  sl_exec
  sl_step
  isplitl []
  · ipureintro
    have hk := (by decide +kernel : ∀ k : Fin k0_t1_loop.trips, ¬ k.val < 48 → 1 ≤ k.val →
      tripTail.sl.v115_r0 k = w (min (k.val + 1 + 2) 50) ∧ tripTail.sl.v92_r0 k = w (k.val + 1) ∧ tripTail.sl.v274_r0 k = w k.val ∧ tripTail.sl.v94_r0 k = w (if k.val + 1 < 50 then k.val + 1 else 0)) k hk48 h1
    unfold words
    rw [hk.1, hk.2.1, hk.2.2.1, hk.2.2.2, Nat.add_sub_cancel]
  isplitl [Hw0 Hw1 Hw2 Hw3 Hw4 Hw5 Hw6 Hw7 Hw8 Hw9 Hw10 Hw11 Hw12 Hw13 Hw14 Hw15 Hw16 Hw17 Hw18]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    isplitl [Hw9]; · iexact Hw9
    isplitl [Hw10]; · iexact Hw10
    isplitl [Hw11]; · iexact Hw11
    isplitl [Hw12]; · iexact Hw12
    isplitl [Hw13]; · iexact Hw13
    isplitl [Hw14]; · iexact Hw14
    isplitl [Hw15]; · iexact Hw15
    isplitl [Hw16]; · iexact Hw16
    isplitl [Hw17]; · iexact Hw17
    iexact Hw18
  isplitl [HW]; · iexists _; iexact HW
  isplitl [HF1_src Hh1]
  · isplitl [HF1_src]; · iexact HF1_src
    iexact Hh1
  isplitl [Hn1]; · iexact Hn1
  isplitl [Hfr1]; · iexact Hfr1
  isplitl [HF1_dst HF1]
  · unfold free1; isplitl [HF1_dst]; · iexists _; iexact HF1_dst
    iexact HF1
  isplitl [HF2_src Hh2]
  · isplitl [HF2_src]; · iexact HF2_src
    iexact Hh2
  isplitl [Hn2]; · iexact Hn2
  isplitl [Hfr2]; · iexact Hfr2
  isplitl [HF2_dst HF2]
  · unfold free2; isplitl [HF2_dst]; · iexists _; iexact HF2_dst
    iexact HF2
  isplitl [HFo_src HFo]
  · isplitl [HFo_src]; · iexists _; iexact HFo_src
    iexact HFo
  isplitl [Hco]
  · iexists (tripTail.sl.Ho_w1 m c t k hc2 hc3 hc4 fo), (XO m c)
    isplitl []
    · ipureintro
      exact outv_eq m c t (Ring.bk 50 k.val) (Ring.sl 3 k.val) (Ring.sl 2 k.val) _ _ (off21_eq _ hk50) (off22_eq _ hk50) (off23_eq _ hk50) _ _ _ _
    · iexact Hco
  isplitl [Hahead]; · iexact Hahead
  isplitl [HFo_dst]
  · iapply (landed_out m c t (Ring.bk 50 (k.val - 1)) fd _ hfs)
    iexact HFo_dst
  iexact Hdone

end Cert.Proof.Run

end
-- ==== Proof.Body.lean ====
/-
  The kernel's body: the first two blocks of each large array sent for, the fifty trips, the last result awaited.
-/
module

public import proofs.«01_k».proof.Proof.TripMid
public import proofs.«01_k».proof.Proof.TripFirst
public import proofs.«01_k».proof.Proof.TripTail

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (c : Dev nD) (t : Fin cfg0.N)

/-- The loop's invariant, one trip in each of its three kinds. -/
def loopInv (v10 v27 : BitVec 32) (init) :
    LoopInvTy_k0_t1 (F := F) Unit ℕ (Pipeline.UD sig nD τ) ℕ Variants.none c none Set.univ (ms0_0 t) (hs0_0 t) (ms0_1 t) (hs0_1 t) g1M (Memref.isWhole_whole _) g2M (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) oM (Memref.isWhole_whole _) ring1 (Memref.isWhole_whole _) cc0_scoped1 ring2 (Memref.isWhole_whole _) cc0_scoped3 ringO (Memref.isWhole_whole _) cc0_scoped5 v10 v27 init where
  inv := inv m c t
  step k acc := by
    by_cases h48 : k.val < 48
    · by_cases h0 : k.val = 0
      · exact tripFirst m c t v10 v27 k h0 h48 acc
      · exact tripMid m c t v10 v27 k h48 (by omega) acc
    · exact tripTail m c t v10 v27 k h48 (by omega) acc

abbrev bodyG (t : Fin cfg0.N) : Prog (TpuEff nD τ sig (Elt F) Λ₀ .tc) PUnit :=
  cc0__outer (F := F) (ms0_0 t) (hs0_0 t) (ms0_1 t) (hs0_1 t) g1M (Memref.isWhole_whole _) g2M (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) oM (Memref.isWhole_whole _) ring1 (Memref.isWhole_whole _) cc0_scoped1 ring2 (Memref.isWhole_whole _) cc0_scoped3 ringO (Memref.isWhole_whole _) cc0_scoped5

/-- What the body starts from. -/
def PRE (W : Waits sig Unit) : sProp 𝕄 := iprop(
    wins m c t ∗ owes (c : Thread nD τ) 0 W
    ∗ homeP1 c (X1 m c) (Ring.bk 50 0) ∗ homeP1 c (X1 m c) (Ring.bk 50 1) ∗ bigSep (Ring.homeSet (NB := 50) 2 0) (homeP1 c (X1 m c))
    ∗ free1 c (Ring.sl 3 0) ∗ free1 c (Ring.sl 3 1) ∗ free1 c (Ring.sl 3 2)
    ∗ homeP2 c (X2 m c) (Ring.bk 50 0) ∗ homeP2 c (X2 m c) (Ring.bk 50 1) ∗ bigSep (Ring.homeSet (NB := 50) 2 0) (homeP2 c (X2 m c))
    ∗ free2 c (Ring.sl 3 0) ∗ free2 c (Ring.sl 3 1) ∗ free2 c (Ring.sl 3 2)
    ∗ freeO c (Ring.sl 2 0) ∗ freeO c (Ring.sl 2 1)
    ∗ bigSep Finset.univ (outP c (XO m c)))
/-- What it ends with. -/
def POST : sProp 𝕄 := iprop(
    wins m c t ∗ (∃ W, owes (c : Thread nD τ) 0 W)
    ∗ bigSep Finset.univ (homeP1 c (X1 m c)) ∗ free1 c (Ring.sl 3 0) ∗ free1 c (Ring.sl 3 1) ∗ free1 c (Ring.sl 3 2)
    ∗ bigSep Finset.univ (homeP2 c (X2 m c)) ∗ free2 c (Ring.sl 3 0) ∗ free2 c (Ring.sl 3 1) ∗ free2 c (Ring.sl 3 2)
    ∗ freeO c (Ring.sl 2 0) ∗ freeO c (Ring.sl 2 1)
    ∗ bigSep Finset.univ (outP c (GO m c t)))

theorem words_end : words 50 = (w 50, w 50, w 50, w 50, w 50, w 49, w 0) := by decide +kernel
theorem words_start : ((2#32, 0#32, 2#32, 0#32, 0#32, 0#32, 0#32) : BitVec 32 × BitVec 32 × BitVec 32 × BitVec 32 × BitVec 32 × BitVec 32 × BitVec 32) = words 0 := by decide +kernel

/-- What the loop starts from. -/
abbrev START : sProp 𝕄 := iprop(
    wins m c t ∗ (∃ W, owes (c : Thread nD τ) 0 W)
    ∗ bigSep (Ring.homeSet (NB := 50) 2 0) (homeP1 c (X1 m c)) ∗ (∃ f, flightP1 c (X1 m c) (Ring.sl 3 0) (Ring.bk 50 0) f)
      ∗ (∃ f, flightP1 c (X1 m c) (Ring.sl 3 1) (Ring.bk 50 1) f) ∗ free1 c (Ring.sl 3 2)
    ∗ bigSep (Ring.homeSet (NB := 50) 2 0) (homeP2 c (X2 m c)) ∗ (∃ f, flightP2 c (X2 m c) (Ring.sl 3 0) (Ring.bk 50 0) f)
      ∗ (∃ f, flightP2 c (X2 m c) (Ring.sl 3 1) (Ring.bk 50 1) f) ∗ free2 c (Ring.sl 3 2)
    ∗ freeO c (Ring.sl 2 0) ∗ freeO c (Ring.sl 2 1)
    ∗ bigSep Finset.univ (outP c (XO m c)))
/-- What it ends with. -/
abbrev FINISH : sProp 𝕄 := iprop(
    wins m c t ∗ (∃ W, owes (c : Thread nD τ) 0 W)
    ∗ bigSep Finset.univ (homeP1 c (X1 m c)) ∗ free1 c (Ring.sl 3 2) ∗ free1 c (Ring.sl 3 0) ∗ free1 c (Ring.sl 3 1)
    ∗ bigSep Finset.univ (homeP2 c (X2 m c)) ∗ free2 c (Ring.sl 3 2) ∗ free2 c (Ring.sl 3 0) ∗ free2 c (Ring.sl 3 1)
    ∗ freeO c (Ring.sl 2 0)
    ∗ (∃ fs fd, ⌜(rsO (Ring.sl 2 49)).view.read (Elt F) fs = outv m c t (Ring.bk 50 49)⌝ ∗ flightPO c (Ring.sl 2 49) (Ring.bk 50 49) fs fd)
    ∗ bigSep (Ring.rangeSet 50 0 49) (outP c (GO m c t)))

theorem inv_start : START m c t ⊢ inv m c t 0 (2#32, 0#32, 2#32, 0#32, 0#32, 0#32, 0#32) := by
  unfold inv
  rw [fl1_lt c _ (by decide : 0 < 50), fl2_lt c _ (by decide : 0 < 50), fl1_lt c _ (by decide : 0 + 1 < 50), fl2_lt c _ (by decide : 0 + 1 < 50),
    Ring.rangeSet_univ, Ring.bigSep_rangeSet_empty (by decide : 0 - 1 ≤ 0), show flO m c t 0 = freeO c (Ring.sl 2 1) from if_pos rfl]
  iintro ⟨Hw, HW, H1, H2, H3, H4, H5, H6, H7, H8, H9, H10, H11⟩
  isplitl []; · ipureintro; exact words_start
  isplitl [Hw]; · iexact Hw
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iempintro

theorem inv_end (acc) : inv m c t 50 acc ⊢ iprop(⌜acc = (w 50, w 50, w 50, w 50, w 50, w 49, w 0)⌝ ∗ FINISH m c t) := by
  unfold inv
  rw [fl1_ge c _ (by decide : ¬ 50 < 50), fl2_ge c _ (by decide : ¬ 50 < 50), fl1_ge c _ (by decide : ¬ 50 + 1 < 50), fl2_ge c _ (by decide : ¬ 50 + 1 < 50),
    flO_pos m c t (by decide : (50 : ℕ) ≠ 0), Ring.homeSet_last 2 50 le_rfl, words_end]
  iintro ⟨%h, Hw, HW, H1, H2, H3, H4, H5, H6, H7, H8, H9, H10, -, H12⟩
  isplitl []; · ipureintro; exact h
  isplitl [Hw]; · iexact Hw
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H12

theorem loop_at {β : Type} (kk : _ → Prog (TpuEff nD τ sig (Elt F) Λ₀ .tc) β) (Q : β → sProp 𝕄) :
    iprop(START m c t ∗ (FINISH m c t -∗ wp frame (wpE (defs₀ (F := F)) Variants.none (c : Thread nD τ) none) Set.univ (kk (w 50, w 50, w 50, w 50, w 50, w 49, w 0)) Q))
      ⊢ wp frame (wpE (defs₀ (F := F)) Variants.none (c : Thread nD τ) none) Set.univ
        (Scf.Loop.for k0_t1_loop k0_t1_ok (2#32, 0#32, 2#32, 0#32, 0#32, 0#32, 0#32) (k0_t1_body (F := F) (ms0_0 t) (hs0_0 t) (ms0_1 t) (hs0_1 t) g1M (Memref.isWhole_whole _) g2M (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) oM (Memref.isWhole_whole _) ring1 (Memref.isWhole_whole _) cc0_scoped1 ring2 (Memref.isWhole_whole _) cc0_scoped3 ringO (Memref.isWhole_whole _) cc0_scoped5 1#32 1#32) >>= kk) Q := by
  have h : inv m c t 0 (2#32, 0#32, 2#32, 0#32, 0#32, 0#32, 0#32) ⊢ iprop((∀ acc, inv m c t (Scf.trips k0_t1_loop.lb k0_t1_loop.ub k0_t1_loop.st) acc -∗ wp frame (wpE (defs₀ (F := F)) Variants.none (c : Thread nD τ) none) Set.univ (kk acc) Q)
      -∗ wp frame (wpE (defs₀ (F := F)) Variants.none (c : Thread nD τ) none) Set.univ
        (Scf.Loop.for k0_t1_loop k0_t1_ok (2#32, 0#32, 2#32, 0#32, 0#32, 0#32, 0#32) (k0_t1_body (F := F) (ms0_0 t) (hs0_0 t) (ms0_1 t) (hs0_1 t) g1M (Memref.isWhole_whole _) g2M (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) oM (Memref.isWhole_whole _) ring1 (Memref.isWhole_whole _) cc0_scoped1 ring2 (Memref.isWhole_whole _) cc0_scoped3 ringO (Memref.isWhole_whole _) cc0_scoped5 1#32 1#32) >>= kk) Q) := exec_loop frame (wpE (defs₀ (F := F)) Variants.none (c : Thread nD τ) none) Set.univ k0_t1_loop.lb k0_t1_loop.ub k0_t1_loop.st k0_t1_ok _ _
    (loopInv m c t 1#32 1#32 (2#32, 0#32, 2#32, 0#32, 0#32, 0#32, 0#32)) (kk := kk) (Q := Q)
  iintro ⟨HS, HK⟩
  ihave HI := (inv_start m c t) $$ [HS]
  · iexact HS
  ihave HL := h $$ [HI]
  · iexact HI
  iapply HL
  iintro %acc Hacc
  ihave HE := (inv_end m c t acc) $$ [Hacc]
  · rw [show (50 : ℕ) = Scf.trips k0_t1_loop.lb k0_t1_loop.ub k0_t1_loop.st from trips_eq.symm]
    iexact Hacc
  icases HE with ⟨%he, HF⟩
  subst he
  iapply HK
  iexact HF

set_option maxHeartbeats 2000000 in
theorem bodyRun (W) : PRE m c t W ⊢ wp frame (wpE (defs₀ (F := F)) Variants.none (c : Thread nD τ) none) Set.univ (bodyG t) (fun _ => POST m c t) := by
  have hd1 := cond1_holds
  have hd2 := cond2_holds
  have hk5 := chk5_holds
  have hk6 := chk6_holds
  unfold PRE
  rw [show (free1 c (Ring.sl 3 0) : sProp 𝕄) = iprop((∃ f, slotP1 c (Ring.sl 3 0) f) ∗ cellP1 c (Ring.sl 3 0)) from rfl,
    show (free1 c (Ring.sl 3 1) : sProp 𝕄) = iprop((∃ f, slotP1 c (Ring.sl 3 1) f) ∗ cellP1 c (Ring.sl 3 1)) from rfl,
    show (free2 c (Ring.sl 3 0) : sProp 𝕄) = iprop((∃ f, slotP2 c (Ring.sl 3 0) f) ∗ cellP2 c (Ring.sl 3 0)) from rfl,
    show (free2 c (Ring.sl 3 1) : sProp 𝕄) = iprop((∃ f, slotP2 c (Ring.sl 3 1) f) ∗ cellP2 c (Ring.sl 3 1)) from rfl]
  iintro ⟨Hw, HW, Hg10, Hg11, Hh1, ⟨⟨%fa, Ha⟩, Hca⟩, ⟨⟨%fb, Hb⟩, Hcb⟩, Hfr1, Hg20, Hg21, Hh2, ⟨⟨%fc, Hc⟩, Hcc⟩, ⟨⟨%fd, Hd⟩, Hcd⟩, Hfr2, Hfo0, Hfo1, Hout⟩
  dsimp only [bodyG]
  sl_exec
  iapply (loop_at m c t)
  isplitl [Hw HW Hh1 Hca Hcb Hfr1 Hh2 Hcc Hcd Hfr2 Hfo0 Hfo1 Hout]
  · isplitl [Hw]; · iexact Hw
    isplitl [HW]; · iexists _; iexact HW
    isplitl [Hh1]; · iexact Hh1
    isplitl [Hca]; · iexists fa; iexact Hca
    isplitl [Hcb]; · iexists fb; iexact Hcb
    isplitl [Hfr1]; · iexact Hfr1
    isplitl [Hh2]; · iexact Hh2
    isplitl [Hcc]; · iexists fc; iexact Hcc
    isplitl [Hcd]; · iexists fd; iexact Hcd
    isplitl [Hfr2]; · iexact Hfr2
    isplitl [Hfo0]; · iexact Hfo0
    isplitl [Hfo1]; · iexact Hfo1
    iexact Hout
  iintro ⟨Hw, ⟨%W', HW⟩, Hh1, Hf12, Hf10, Hf11, Hh2, Hf22, Hf20, Hf21, HfO0, ⟨%fs, %fe, %hfs, HFo⟩, Hdone⟩
  sl_exec
  sl_step
  unfold POST
  isplitl [Hw]; · iexact Hw
  isplitl [HW]; · iexists _; iexact HW
  isplitl [Hh1]; · iexact Hh1
  isplitl [Hf10]; · iexact Hf10
  isplitl [Hf11]; · iexact Hf11
  isplitl [Hf12]; · iexact Hf12
  isplitl [Hh2]; · iexact Hh2
  isplitl [Hf20]; · iexact Hf20
  isplitl [Hf21]; · iexact Hf21
  isplitl [Hf22]; · iexact Hf22
  isplitl [HfO0]; · iexact HfO0
  isplitl [HFo_src HFo]
  · rw [show (Ring.sl 2 1) = Ring.sl 2 49 from rfl]
    unfold freeO
    isplitl [HFo_src]; · iexists _; iexact HFo_src
    iexact HFo
  rw [← Ring.rangeSet_univ, out_last c 50 le_rfl (by decide)]
  isplitl [HFo_dst]
  · iapply (landed_out m c t (Ring.bk 50 49) fe _ hfs)
    iexact HFo_dst
  iexact Hdone

end Cert.Proof.Run

end
-- ==== Proof.Split.lean ====
/-
  The large arrays and the result as their blocks, the rings as their slots, the cells as the kernel's own.
-/
module

public import proofs.«01_k».proof.Proof.Body

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Equal assertions entail one another. -/
theorem of_same {P Q : sProp 𝕄} (h : P = Q) : P ⊢ Q := h ▸ .rfl

variable (c : Dev nD)

/-! ## Blocks of rows -/

abbrev BG (b : Fin 50) : Finset S10000x10000.Idx := (Rect.unit (s := S10000x10000) (rowAt b) S200x10000.size (rowAt_inbG b)).set

theorem mem_BG (b : Fin 50) (y : S10000x10000.Idx) : y ∈ BG b ↔ (y 0).val / 200 = b.val := by
  rw [Rect.mem_set_unit]
  have h1 : (y 1).val < 10000 := (y 1).isLt
  constructor
  · intro H; have a0 : 200 * b.val ≤ (y 0).val ∧ (y 0).val < 200 * b.val + 200 := H 0; omega
  · intro H a; fin_cases a
    · show 200 * b.val ≤ (y 0).val ∧ (y 0).val < 200 * b.val + 200; omega
    · show 0 ≤ (y 1).val ∧ (y 1).val < 0 + 10000; omega
theorem BG_disjoint : ∀ b b' : Fin 50, b ≠ b' → Disjoint (BG b) (BG b') := by
  intro b b' hne; rw [Finset.disjoint_left]; intro y hy hy'; rw [mem_BG] at hy hy'; exact hne (Fin.ext (hy.symm.trans hy'))
theorem BG_cover : (Finset.univ : Finset (Fin 50)).biUnion BG = Finset.univ := by
  ext y; simp only [Finset.mem_biUnion, Finset.mem_univ, true_and, iff_true]
  have h0 : (y 0).val < 10000 := (y 0).isLt
  exact ⟨⟨(y 0).val / 200, by omega⟩, by rw [mem_BG]⟩

abbrev BO (b : Fin 50) : Finset S10000x128.Idx := (Rect.unit (s := S10000x128) (rowAt b) S200x128.size (rowAt_inbO b)).set

theorem mem_BO (b : Fin 50) (y : S10000x128.Idx) : y ∈ BO b ↔ (y 0).val / 200 = b.val := by
  rw [Rect.mem_set_unit]
  have h1 : (y 1).val < 128 := (y 1).isLt
  constructor
  · intro H; have a0 : 200 * b.val ≤ (y 0).val ∧ (y 0).val < 200 * b.val + 200 := H 0; omega
  · intro H a; fin_cases a
    · show 200 * b.val ≤ (y 0).val ∧ (y 0).val < 200 * b.val + 200; omega
    · show 0 ≤ (y 1).val ∧ (y 1).val < 0 + 128; omega
theorem BO_disjoint : ∀ b b' : Fin 50, b ≠ b' → Disjoint (BO b) (BO b') := by
  intro b b' hne; rw [Finset.disjoint_left]; intro y hy hy'; rw [mem_BO] at hy hy'; exact hne (Fin.ext (hy.symm.trans hy'))
theorem BO_cover : (Finset.univ : Finset (Fin 50)).biUnion BO = Finset.univ := by
  ext y; simp only [Finset.mem_biUnion, Finset.mem_univ, true_and, iff_true]
  have h0 : (y 0).val < 10000 := (y 0).isLt
  exact ⟨⟨(y 0).val / 200, by omega⟩, by rw [mem_BO]⟩

abbrev SG (s : Fin 3) : Finset S3x200x10000.Idx := (Rect.unit (s := S3x200x10000) (slot3 s) S1x200x10000.size (slot3_inb s)).set

theorem mem_SG (s : Fin 3) (y : S3x200x10000.Idx) : y ∈ SG s ↔ (y 0).val = s.val := by
  rw [Rect.mem_set_unit]
  have h1 : (y 1).val < 200 := (y 1).isLt
  have h2 : (y 2).val < 10000 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 200; omega
    · show 0 ≤ (y 2).val ∧ (y 2).val < 0 + 10000; omega
theorem SG_disjoint : ∀ s s' : Fin 3, s ≠ s' → Disjoint (SG s) (SG s') := by
  intro b b' hne; rw [Finset.disjoint_left]; intro y hy hy'; rw [mem_SG] at hy hy'; exact hne (Fin.ext (hy.symm.trans hy'))
theorem SG_cover : (Finset.univ : Finset (Fin 3)).biUnion SG = Finset.univ := by
  ext y; simp only [Finset.mem_biUnion, Finset.mem_univ, true_and, iff_true]
  exact ⟨(y 0).cast (by decide), by rw [mem_SG]; rfl⟩

abbrev SO (s : Fin 2) : Finset S2x200x128.Idx := (Rect.unit (s := S2x200x128) (slot2 s) S1x200x128.size (slot2_inb s)).set

theorem mem_SO (s : Fin 2) (y : S2x200x128.Idx) : y ∈ SO s ↔ (y 0).val = s.val := by
  rw [Rect.mem_set_unit]
  have h1 : (y 1).val < 200 := (y 1).isLt
  have h2 : (y 2).val < 128 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 200; omega
    · show 0 ≤ (y 2).val ∧ (y 2).val < 0 + 128; omega
theorem SO_disjoint : ∀ s s' : Fin 2, s ≠ s' → Disjoint (SO s) (SO s') := by
  intro b b' hne; rw [Finset.disjoint_left]; intro y hy hy'; rw [mem_SO] at hy hy'; exact hne (Fin.ext (hy.symm.trans hy'))
theorem SO_cover : (Finset.univ : Finset (Fin 2)).biUnion SO = Finset.univ := by
  ext y; simp only [Finset.mem_biUnion, Finset.mem_univ, true_and, iff_true]
  exact ⟨(y 0).cast (by decide), by rw [mem_SO]; rfl⟩

theorem gb1_set (b : Fin 50) : (gb1 b).view.set = BG b := View.set_slice_whole _ _
theorem gb2_set (b : Fin 50) : (gb2 b).view.set = BG b := View.set_slice_whole _ _
theorem ob_set (b : Fin 50) : (ob b).view.set = BO b := View.set_slice_whole _ _
theorem rs1_set (s : Fin 3) : (rs1 s).view.set = SG s := (View.set_reshape _ _).trans (View.set_slice_whole _ _)
theorem rs2_set (s : Fin 3) : (rs2 s).view.set = SG s := (View.set_reshape _ _).trans (View.set_slice_whole _ _)
theorem rsO_set (s : Fin 2) : (rsO s).view.set = SO s := (View.set_reshape _ _).trans (View.set_slice_whole _ _)

theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem bigSep_two (Φ : Fin 2 → sProp 𝕄) : bigSep Finset.univ Φ = iprop(Φ 0 ∗ Φ 1) :=
  bigSep_univ_eq_bigSepL [(0 : Fin 2), (1 : Fin 2)] (by decide) (by decide) Φ

/-! ## The arrays whole are their blocks -/

theorem g1_eq (X : Buf (Elt F) ((c : Thread nD τ).loc main_arg2)) :
    (((c : Thread nD τ).loc main_arg2) ↦{fullShare} X : sProp 𝕄) = bigSep Finset.univ (homeP1 c X) := by
  rw [Ring.pointsTo_blocks (ℓ := (c : Thread nD τ).loc main_arg2) BG BG_disjoint BG_cover]
  exact bigSep_congr fun b _ => by rw [← gb1_set]; rfl
theorem g2_eq (X : Buf (Elt F) ((c : Thread nD τ).loc main_arg3)) :
    (((c : Thread nD τ).loc main_arg3) ↦{fullShare} X : sProp 𝕄) = bigSep Finset.univ (homeP2 c X) := by
  rw [Ring.pointsTo_blocks (ℓ := (c : Thread nD τ).loc main_arg3) BG BG_disjoint BG_cover]
  exact bigSep_congr fun b _ => by rw [← gb2_set]; rfl
theorem o_eq (X : Buf (Elt F) ((c : Thread nD τ).loc main_v13)) :
    (((c : Thread nD τ).loc main_v13) ↦{fullShare} X : sProp 𝕄) = bigSep Finset.univ (outP c X) := by
  rw [Ring.pointsTo_blocks (ℓ := (c : Thread nD τ).loc main_v13) BO BO_disjoint BO_cover]
  exact bigSep_congr fun b _ => by rw [← ob_set]; rfl
/-- Blocks 0 and 1 apart from the rest. -/
theorem homes_apart (P : Fin 50 → sProp 𝕄) :
    bigSep Finset.univ P = iprop(P (Ring.bk 50 0) ∗ P (Ring.bk 50 1) ∗ bigSep (Ring.homeSet 2 0) P) := by
  have e : (Finset.univ : Finset (Fin 50)) = insert (Ring.bk 50 0) (insert (Ring.bk 50 1) (Ring.homeSet (NB := 50) 2 0)) := by
    ext b; simp only [Finset.mem_univ, Finset.mem_insert, Ring.mem_homeSet, true_iff, Fin.ext_iff, Ring.bk_val (show 0 < 50 by decide), Ring.bk_val (show 1 < 50 by decide)]; omega
  rw [e, bigSep_insert (by simp [Ring.mem_homeSet, Fin.ext_iff, Ring.bk_val (show 0 < 50 by decide), Ring.bk_val (show 1 < 50 by decide)]),
    bigSep_insert (by simp [Ring.mem_homeSet, Fin.ext_iff, Ring.bk_val (show 1 < 50 by decide)])]; rfl

/-! ## The rings are their slots, and back -/

theorem slotP1_eq (s : Fin 3) (f : Buf (Elt F) ((c : Thread nD τ).loc cc0_scoped0)) :
    (slotP1 c s f : sProp 𝕄) = (((c : Thread nD τ).loc cc0_scoped0) ↦[SG s]{fullShare} f : sProp 𝕄) :=
  congrArg (fun S => (((c : Thread nD τ).loc cc0_scoped0) ↦[S]{fullShare} f : sProp 𝕄)) (rs1_set s)
theorem ring1_split : iprop(∃ f : Buf (Elt F) ((c : Thread nD τ).loc cc0_scoped0), ((c : Thread nD τ).loc cc0_scoped0) ↦{fullShare} f)
    ⊢ (iprop((∃ f, slotP1 c 0 f) ∗ (∃ f, slotP1 c 1 f) ∗ (∃ f, slotP1 c 2 f)) : sProp 𝕄) := by
  iintro ⟨%f, H⟩
  ihave H2 := (of_same ((Ring.pointsTo_blocks (Ix := Unit) (Name := ℕ) (U := Pipeline.UD sig nD τ) (Lvl := ℕ) (q := fullShare) (ℓ := (c : Thread nD τ).loc cc0_scoped0) SG SG_disjoint SG_cover f).trans (bigSep_three _))) $$ H
  icases H2 with ⟨H0, H1, H2⟩
  isplitl [H0]
  · iexists f; iapply (of_same (slotP1_eq c 0 f).symm); iexact H0
  isplitl [H1]
  · iexists f; iapply (of_same (slotP1_eq c 1 f).symm); iexact H1
  iexists f; iapply (of_same (slotP1_eq c 2 f).symm); iexact H2
theorem ring1_join : iprop((∃ f, slotP1 c 0 f) ∗ (∃ f, slotP1 c 1 f) ∗ (∃ f, slotP1 c 2 f))
    ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped0) SG SG_disjoint SG_cover f0)
  irw [bigSep_three]
  isplitl [H0]
  · iexists f0; iapply (of_same (slotP1_eq c 0 f0)); iexact H0
  isplitl [H1]
  · iexists f1; iapply (of_same (slotP1_eq c 1 f1)); iexact H1
  iexists f2; iapply (of_same (slotP1_eq c 2 f2)); iexact H2

theorem slotP2_eq (s : Fin 3) (f : Buf (Elt F) ((c : Thread nD τ).loc cc0_scoped2)) :
    (slotP2 c s f : sProp 𝕄) = (((c : Thread nD τ).loc cc0_scoped2) ↦[SG s]{fullShare} f : sProp 𝕄) :=
  congrArg (fun S => (((c : Thread nD τ).loc cc0_scoped2) ↦[S]{fullShare} f : sProp 𝕄)) (rs2_set s)
theorem ring2_split : iprop(∃ f : Buf (Elt F) ((c : Thread nD τ).loc cc0_scoped2), ((c : Thread nD τ).loc cc0_scoped2) ↦{fullShare} f)
    ⊢ (iprop((∃ f, slotP2 c 0 f) ∗ (∃ f, slotP2 c 1 f) ∗ (∃ f, slotP2 c 2 f)) : sProp 𝕄) := by
  iintro ⟨%f, H⟩
  ihave H2 := (of_same ((Ring.pointsTo_blocks (Ix := Unit) (Name := ℕ) (U := Pipeline.UD sig nD τ) (Lvl := ℕ) (q := fullShare) (ℓ := (c : Thread nD τ).loc cc0_scoped2) SG SG_disjoint SG_cover f).trans (bigSep_three _))) $$ H
  icases H2 with ⟨H0, H1, H2⟩
  isplitl [H0]
  · iexists f; iapply (of_same (slotP2_eq c 0 f).symm); iexact H0
  isplitl [H1]
  · iexists f; iapply (of_same (slotP2_eq c 1 f).symm); iexact H1
  iexists f; iapply (of_same (slotP2_eq c 2 f).symm); iexact H2
theorem ring2_join : iprop((∃ f, slotP2 c 0 f) ∗ (∃ f, slotP2 c 1 f) ∗ (∃ f, slotP2 c 2 f))
    ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩, ⟨%f2, H2⟩⟩
  iapply (Ring.pointsTo_blocks_join_exists (ℓ := (c : Thread nD τ).loc cc0_scoped2) SG SG_disjoint SG_cover f0)
  irw [bigSep_three]
  isplitl [H0]
  · iexists f0; iapply (of_same (slotP2_eq c 0 f0)); iexact H0
  isplitl [H1]
  · iexists f1; iapply (of_same (slotP2_eq c 1 f1)); iexact H1
  iexists f2; iapply (of_same (slotP2_eq c 2 f2)); iexact H2

theorem slotPO_eq (s : Fin 2) (f : Buf (Elt F) ((c : Thread nD τ).loc cc0_scoped4)) :
    (slotPO c s f : sProp 𝕄) = (((c : Thread nD τ).loc cc0_scoped4) ↦[SO s]{fullShare} f : sProp 𝕄) :=
  congrArg (fun S => (((c : Thread nD τ).loc cc0_scoped4) ↦[S]{fullShare} f : sProp 𝕄)) (rsO_set s)
theorem ringO_split : iprop(∃ f : Buf (Elt F) ((c : Thread nD τ).loc cc0_scoped4), ((c : Thread nD τ).loc cc0_scoped4) ↦{fullShare} f)
    ⊢ (iprop((∃ f, slotPO c 0 f) ∗ (∃ f, slotPO c 1 f)) : sProp 𝕄) := by
  iintro ⟨%f, H⟩
  ihave H2 := (of_same ((Ring.pointsTo_blocks (Ix := Unit) (Name := ℕ) (U := Pipeline.UD sig nD τ) (Lvl := ℕ) (q := fullShare) (ℓ := (c : Thread nD τ).loc cc0_scoped4) SO SO_disjoint SO_cover f).trans (bigSep_two _))) $$ H
  icases H2 with ⟨H0, H1⟩
  isplitl [H0]
  · iexists f; iapply (of_same (slotPO_eq c 0 f).symm); iexact H0
  iexists f; iapply (of_same (slotPO_eq c 1 f).symm); iexact H1
theorem ringO_join : iprop((∃ f, slotPO c 0 f) ∗ (∃ f, slotPO c 1 f))
    ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) SO SO_disjoint SO_cover f0)
  irw [bigSep_two]
  isplitl [H0]
  · iexists f0; iapply (of_same (slotPO_eq c 0 f0)); iexact H0
  iexists f1; iapply (of_same (slotPO_eq c 1 f1)); iexact H1

/-! ## The kernel's own cells -/

abbrev osem0 : Fin 8 → SemLoc sig :=
  fun j => (![SemLoc.dma 19, SemLoc.dma 20, SemLoc.dma 21, SemLoc.dma 22, SemLoc.dma 23, SemLoc.dma 24, SemLoc.dma 25, SemLoc.dma 26] : Fin 8 → SemLoc sig) j
theorem ownSemFacts0 : Pipeline.OwnSemFacts spec0 osem0 := by decide
theorem cells_eq : (Pipeline.ownSems0 (Ix := Unit) (Name := ℕ) (U := Pipeline.UD sig nD τ) (Lvl := ℕ) (Val := Elt F) (τ := τ) osem0 c : sProp 𝕄)
    = iprop(cellP1 c 0 ∗ cellP1 c 1 ∗ cellP1 c 2 ∗ cellP2 c 0 ∗ cellP2 c 1 ∗ cellP2 c 2 ∗ cellPO c 0 ∗ cellPO c 1) := by
  rw [Pipeline.ownSems0_eq_of_list c osem0 [0, 1, 2, 3, 4, 5, 6, 7] (by decide) (by decide)]; rfl

end Cert.Proof.Run

end
-- ==== Proof.Launch.lean ====
/-
  The launch: the pipeline's proof data, the body's obligation, and the run of the whole program with the result's
  array named.
-/
module

public import proofs.«01_k».proof.Proof.Split

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arrays the body reads itself, and the one it writes. -/
def H0 : Finset (Ref sig .tc) := {main_arg2, main_arg3}
def R0 : Finset (Ref sig .tc) := {main_v13}
theorem H0_sub : H0 ⊆ Pipeline.restRefs sig spec0 := by decide
theorem R0_sub : R0 ⊆ Pipeline.restRefs sig spec0 \ H0 := by decide

/-- The arrays after the body: the result at `GO`, the rest as found. -/
def GG (c : Dev nD) : (b : Ref sig .tc) → Buf (Elt F) ((c : Thread nD τ).loc b) := Function.update (V m c) main_v13 (GO m c t0_0)

theorem GG_result (c : Dev nD) : GG m c main_v13 = GO m c t0_0 := Function.update_self _ _ _

theorem read_eq (c : Dev nD) : (bigSep H0 (fun b => ((c : Thread nD τ).loc b) ↦{fullShare} V m c b) : sProp 𝕄)
    = iprop((((c : Thread nD τ).loc main_arg2) ↦{fullShare} V m c main_arg2) ∗ ((c : Thread nD τ).loc main_arg3) ↦{fullShare} V m c main_arg3) := by
  rw [BI.bigSep_eq_bigSepL_of_eq [main_arg2, main_arg3] (by decide) (by decide)]
  simp only [BI.bigSepL_cons_cons, BI.bigSepL_singleton]; rfl
theorem written_eq (c : Dev nD) (W : (b : Ref sig .tc) → Buf (Elt F) ((c : Thread nD τ).loc b)) :
    (Pipeline.routed R0 c W : sProp 𝕄) = (((c : Thread nD τ).loc main_v13) ↦{fullShare} W main_v13) := by
  unfold Pipeline.routed; rw [BI.bigSep_eq_bigSepL_of_eq [main_v13] (by decide) (by decide)]
  simp only [BI.bigSepL_singleton]

abbrev inv0 (W : (c : Dev nD) → (b : Ref sig .tc) → Buf (Elt F) ((c : Thread nD τ).loc b)) (c : Dev nD) : sProp 𝕄 := Pipeline.ΦDRG osem0 spec0 H0 R0 (V m) W c

/-- The region's invariant after `n` points: the result's array at its entry contents, then at `GO`. -/
def phi (c : Dev nD) (n : ℕ) : sProp 𝕄 := if n = 0 then inv0 m (V m) c else inv0 m (GG m) c
theorem phi_zero (c : Dev nD) : phi m c 0 = inv0 m (V m) c := if_pos rfl
theorem phi_one (c : Dev nD) : phi m c 1 = inv0 m (GG m) c := if_neg (by decide)

/-- The pipeline's proof data on core `c`: every operand left as staged; the result's array at its entry contents
    before the one point, at `GO` after it. -/
def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨n + 19, h⟩ => absurd h (Nat.not_lt.2 (Nat.le_add_left 19 n))
  Φ i := phi m c i.val
  q _ := fullShare
  owed _ := 0

theorem A_eq (c : Dev nD) (w : Fin cfg0.W) : (dats m 0 c).A w = V m c (Pipeline.arrRef spec0 w) := by
  dsimp only [dats]
theorem before_0 (c : Dev nD) (t : Fin cfg0.N) (d) : (dats m 0 c).before 0 t d = iblk m c 0 t := by
  unfold Pipeline.Dat.before; rw [if_pos (fetch0_0 t)]; unfold Pipeline.Dat.fetched Pipeline.Dat.blockOf iblk; dsimp only [dats]; rfl
theorem after_0 (c : Dev nD) (t : Fin cfg0.N) : (dats m 0 c).after 0 t = iblk m c 0 t := by dsimp only [dats]
theorem before_1 (c : Dev nD) (t : Fin cfg0.N) (d) : (dats m 0 c).before 1 t d = iblk m c 1 t := by
  unfold Pipeline.Dat.before; rw [if_pos (fetch0_1 t)]; unfold Pipeline.Dat.fetched Pipeline.Dat.blockOf iblk; dsimp only [dats]; rfl
theorem after_1 (c : Dev nD) (t : Fin cfg0.N) : (dats m 0 c).after 1 t = iblk m c 1 t := by dsimp only [dats]
theorem before_2 (c : Dev nD) (t : Fin cfg0.N) (d) : (dats m 0 c).before 2 t d = iblk m c 2 t := by
  unfold Pipeline.Dat.before; rw [if_pos (fetch0_2 t)]; unfold Pipeline.Dat.fetched Pipeline.Dat.blockOf iblk; dsimp only [dats]; rfl
theorem after_2 (c : Dev nD) (t : Fin cfg0.N) : (dats m 0 c).after 2 t = iblk m c 2 t := by dsimp only [dats]
theorem before_3 (c : Dev nD) (t : Fin cfg0.N) (d) : (dats m 0 c).before 3 t d = iblk m c 3 t := by
  unfold Pipeline.Dat.before; rw [if_pos (fetch0_3 t)]; unfold Pipeline.Dat.fetched Pipeline.Dat.blockOf iblk; dsimp only [dats]; rfl
theorem after_3 (c : Dev nD) (t : Fin cfg0.N) : (dats m 0 c).after 3 t = iblk m c 3 t := by dsimp only [dats]
theorem before_4 (c : Dev nD) (t : Fin cfg0.N) (d) : (dats m 0 c).before 4 t d = iblk m c 4 t := by
  unfold Pipeline.Dat.before; rw [if_pos (fetch0_4 t)]; unfold Pipeline.Dat.fetched Pipeline.Dat.blockOf iblk; dsimp only [dats]; rfl
theorem after_4 (c : Dev nD) (t : Fin cfg0.N) : (dats m 0 c).after 4 t = iblk m c 4 t := by dsimp only [dats]
theorem before_5 (c : Dev nD) (t : Fin cfg0.N) (d) : (dats m 0 c).before 5 t d = iblk m c 5 t := by
  unfold Pipeline.Dat.before; rw [if_pos (fetch0_5 t)]; unfold Pipeline.Dat.fetched Pipeline.Dat.blockOf iblk; dsimp only [dats]; rfl
theorem after_5 (c : Dev nD) (t : Fin cfg0.N) : (dats m 0 c).after 5 t = iblk m c 5 t := by dsimp only [dats]
theorem before_6 (c : Dev nD) (t : Fin cfg0.N) (d) : (dats m 0 c).before 6 t d = iblk m c 6 t := by
  unfold Pipeline.Dat.before; rw [if_pos (fetch0_6 t)]; unfold Pipeline.Dat.fetched Pipeline.Dat.blockOf iblk; dsimp only [dats]; rfl
theorem after_6 (c : Dev nD) (t : Fin cfg0.N) : (dats m 0 c).after 6 t = iblk m c 6 t := by dsimp only [dats]
theorem before_7 (c : Dev nD) (t : Fin cfg0.N) (d) : (dats m 0 c).before 7 t d = iblk m c 7 t := by
  unfold Pipeline.Dat.before; rw [if_pos (fetch0_7 t)]; unfold Pipeline.Dat.fetched Pipeline.Dat.blockOf iblk; dsimp only [dats]; rfl
theorem after_7 (c : Dev nD) (t : Fin cfg0.N) : (dats m 0 c).after 7 t = iblk m c 7 t := by dsimp only [dats]
theorem before_8 (c : Dev nD) (t : Fin cfg0.N) (d) : (dats m 0 c).before 8 t d = iblk m c 8 t := by
  unfold Pipeline.Dat.before; rw [if_pos (fetch0_8 t)]; unfold Pipeline.Dat.fetched Pipeline.Dat.blockOf iblk; dsimp only [dats]; rfl
theorem after_8 (c : Dev nD) (t : Fin cfg0.N) : (dats m 0 c).after 8 t = iblk m c 8 t := by dsimp only [dats]
theorem before_9 (c : Dev nD) (t : Fin cfg0.N) (d) : (dats m 0 c).before 9 t d = iblk m c 9 t := by
  unfold Pipeline.Dat.before; rw [if_pos (fetch0_9 t)]; unfold Pipeline.Dat.fetched Pipeline.Dat.blockOf iblk; dsimp only [dats]; rfl
theorem after_9 (c : Dev nD) (t : Fin cfg0.N) : (dats m 0 c).after 9 t = iblk m c 9 t := by dsimp only [dats]
theorem before_10 (c : Dev nD) (t : Fin cfg0.N) (d) : (dats m 0 c).before 10 t d = iblk m c 10 t := by
  unfold Pipeline.Dat.before; rw [if_pos (fetch0_10 t)]; unfold Pipeline.Dat.fetched Pipeline.Dat.blockOf iblk; dsimp only [dats]; rfl
theorem after_10 (c : Dev nD) (t : Fin cfg0.N) : (dats m 0 c).after 10 t = iblk m c 10 t := by dsimp only [dats]
theorem before_11 (c : Dev nD) (t : Fin cfg0.N) (d) : (dats m 0 c).before 11 t d = iblk m c 11 t := by
  unfold Pipeline.Dat.before; rw [if_pos (fetch0_11 t)]; unfold Pipeline.Dat.fetched Pipeline.Dat.blockOf iblk; dsimp only [dats]; rfl
theorem after_11 (c : Dev nD) (t : Fin cfg0.N) : (dats m 0 c).after 11 t = iblk m c 11 t := by dsimp only [dats]
theorem before_12 (c : Dev nD) (t : Fin cfg0.N) (d) : (dats m 0 c).before 12 t d = iblk m c 12 t := by
  unfold Pipeline.Dat.before; rw [if_pos (fetch0_12 t)]; unfold Pipeline.Dat.fetched Pipeline.Dat.blockOf iblk; dsimp only [dats]; rfl
theorem after_12 (c : Dev nD) (t : Fin cfg0.N) : (dats m 0 c).after 12 t = iblk m c 12 t := by dsimp only [dats]
theorem before_13 (c : Dev nD) (t : Fin cfg0.N) (d) : (dats m 0 c).before 13 t d = iblk m c 13 t := by
  unfold Pipeline.Dat.before; rw [if_pos (fetch0_13 t)]; unfold Pipeline.Dat.fetched Pipeline.Dat.blockOf iblk; dsimp only [dats]; rfl
theorem after_13 (c : Dev nD) (t : Fin cfg0.N) : (dats m 0 c).after 13 t = iblk m c 13 t := by dsimp only [dats]
theorem before_14 (c : Dev nD) (t : Fin cfg0.N) (d) : (dats m 0 c).before 14 t d = iblk m c 14 t := by
  unfold Pipeline.Dat.before; rw [if_pos (fetch0_14 t)]; unfold Pipeline.Dat.fetched Pipeline.Dat.blockOf iblk; dsimp only [dats]; rfl
theorem after_14 (c : Dev nD) (t : Fin cfg0.N) : (dats m 0 c).after 14 t = iblk m c 14 t := by dsimp only [dats]
theorem before_15 (c : Dev nD) (t : Fin cfg0.N) (d) : (dats m 0 c).before 15 t d = iblk m c 15 t := by
  unfold Pipeline.Dat.before; rw [if_pos (fetch0_15 t)]; unfold Pipeline.Dat.fetched Pipeline.Dat.blockOf iblk; dsimp only [dats]; rfl
theorem after_15 (c : Dev nD) (t : Fin cfg0.N) : (dats m 0 c).after 15 t = iblk m c 15 t := by dsimp only [dats]
theorem before_16 (c : Dev nD) (t : Fin cfg0.N) (d) : (dats m 0 c).before 16 t d = iblk m c 16 t := by
  unfold Pipeline.Dat.before; rw [if_pos (fetch0_16 t)]; unfold Pipeline.Dat.fetched Pipeline.Dat.blockOf iblk; dsimp only [dats]; rfl
theorem after_16 (c : Dev nD) (t : Fin cfg0.N) : (dats m 0 c).after 16 t = iblk m c 16 t := by dsimp only [dats]
theorem before_17 (c : Dev nD) (t : Fin cfg0.N) (d) : (dats m 0 c).before 17 t d = iblk m c 17 t := by
  unfold Pipeline.Dat.before; rw [if_pos (fetch0_17 t)]; unfold Pipeline.Dat.fetched Pipeline.Dat.blockOf iblk; dsimp only [dats]; rfl
theorem after_17 (c : Dev nD) (t : Fin cfg0.N) : (dats m 0 c).after 17 t = iblk m c 17 t := by dsimp only [dats]
theorem before_18 (c : Dev nD) (t : Fin cfg0.N) (d) : (dats m 0 c).before 18 t d = iblk m c 18 t := by
  unfold Pipeline.Dat.before; rw [if_pos (fetch0_18 t)]; unfold Pipeline.Dat.fetched Pipeline.Dat.blockOf iblk; dsimp only [dats]; rfl
theorem after_18 (c : Dev nD) (t : Fin cfg0.N) : (dats m 0 c).after 18 t = iblk m c 18 t := by dsimp only [dats]

def bodyPre (c : Dev nD) (t : Fin cfg0.N) : sProp 𝕄 := iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))
def bodyPost (c : Dev nD) (t : Fin cfg0.N) : sProp 𝕄 := iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

theorem inv_pieces (c : Dev nD) (W : (c : Dev nD) → (b : Ref sig .tc) → Buf (Elt F) ((c : Thread nD τ).loc b)) : inv0 m W c
    = iprop(((∃ f : Buf (Elt F) ((c : Thread nD τ).loc cc0_scoped0), ((c : Thread nD τ).loc cc0_scoped0) ↦{fullShare} f)
        ∗ (∃ f : Buf (Elt F) ((c : Thread nD τ).loc cc0_scoped2), ((c : Thread nD τ).loc cc0_scoped2) ↦{fullShare} f)
        ∗ (∃ f : Buf (Elt F) ((c : Thread nD τ).loc cc0_scoped4), ((c : Thread nD τ).loc cc0_scoped4) ↦{fullShare} f))
      ∗ (∃ r, prngReg c r)
      ∗ (cellP1 c 0 ∗ cellP1 c 1 ∗ cellP1 c 2 ∗ cellP2 c 0 ∗ cellP2 c 1 ∗ cellP2 c 2 ∗ cellPO c 0 ∗ cellPO c 1)
      ∗ (bigSep Finset.univ (homeP1 c (X1 m c)) ∗ bigSep Finset.univ (homeP2 c (X2 m c)))
      ∗ bigSep Finset.univ (outP c (W c main_v13))) := by
  unfold inv0; rw [Pipeline.ΦDRG_eq, scopedRest0_eq, cells_eq, read_eq, written_eq, g1_eq, g2_eq, o_eq]; rfl

set_option maxHeartbeats 2000000 in
set_option backward.isDefEq.respectTransparency.types false in
theorem sound_body (c : Dev nD) (t : Fin cfg0.N) :
    bodyPre m c t ⊢ wp frame (wpE (defs₀ (F := F)) Variants.none c none) Set.univ (bodyG t) (fun _ => bodyPost m c t) := by
  obtain rfl := fin_N0 t
  unfold bodyPre bodyPost
  rw [show (dats m 0 c).Φ (Fin.castSucc t0_0) = inv0 m (V m) c from phi_zero m c, show (dats m 0 c).Φ (Fin.succ t0_0) = inv0 m (GG m) c from phi_one m c,
    inv_pieces, inv_pieces, GG_result, homes_apart (homeP1 c (X1 m c)), homes_apart (homeP2 c (X2 m c))]
  unfold Pipeline.Dat.owesAt Pipeline.owesWithin
  rw [show (dats m 0 c).owed (Fin.castSucc t0_0) = 0 from rfl, show (dats m 0 c).owed (Fin.succ t0_0) = 0 from rfl]
  generalize t0_0 = t
  unfold owns
  iintro ⟨⟨⟨HR1, HR2, HRO⟩, Hg, ⟨C0, C1, C2, D0, D1, D2, E0, E1⟩, ⟨⟨Ha, Hb, Hh⟩, ⟨Hc, Hd, Hi⟩⟩, Ho⟩, ⟨%W, -, HW⟩, ⟨%d0, %g0, %hg0, W0⟩, ⟨%d1, %g1, %hg1, W1⟩, ⟨%d2, %g2, %hg2, W2⟩, ⟨%d3, %g3, %hg3, W3⟩, ⟨%d4, %g4, %hg4, W4⟩, ⟨%d5, %g5, %hg5, W5⟩, ⟨%d6, %g6, %hg6, W6⟩, ⟨%d7, %g7, %hg7, W7⟩, ⟨%d8, %g8, %hg8, W8⟩, ⟨%d9, %g9, %hg9, W9⟩, ⟨%d10, %g10, %hg10, W10⟩, ⟨%d11, %g11, %hg11, W11⟩, ⟨%d12, %g12, %hg12, W12⟩, ⟨%d13, %g13, %hg13, W13⟩, ⟨%d14, %g14, %hg14, W14⟩, ⟨%d15, %g15, %hg15, W15⟩, ⟨%d16, %g16, %hg16, W16⟩, ⟨%d17, %g17, %hg17, W17⟩, ⟨%d18, %g18, %hg18, W18⟩⟩
  rw [before_0] at hg0
  ihave W0 := (pointsTo_rep_entails (c : Thread nD τ) (ms0_0 t) g0 fullShare) $$ W0
  rw [hg0]
  rw [before_1] at hg1
  ihave W1 := (pointsTo_rep_entails (c : Thread nD τ) (ms0_1 t) g1 fullShare) $$ W1
  rw [hg1]
  rw [before_2] at hg2
  ihave W2 := (pointsTo_rep_entails (c : Thread nD τ) (ms0_2 t) g2 fullShare) $$ W2
  rw [hg2]
  rw [before_3] at hg3
  ihave W3 := (pointsTo_rep_entails (c : Thread nD τ) (ms0_3 t) g3 fullShare) $$ W3
  rw [hg3]
  rw [before_4] at hg4
  ihave W4 := (pointsTo_rep_entails (c : Thread nD τ) (ms0_4 t) g4 fullShare) $$ W4
  rw [hg4]
  rw [before_5] at hg5
  ihave W5 := (pointsTo_rep_entails (c : Thread nD τ) (ms0_5 t) g5 fullShare) $$ W5
  rw [hg5]
  rw [before_6] at hg6
  ihave W6 := (pointsTo_rep_entails (c : Thread nD τ) (ms0_6 t) g6 fullShare) $$ W6
  rw [hg6]
  rw [before_7] at hg7
  ihave W7 := (pointsTo_rep_entails (c : Thread nD τ) (ms0_7 t) g7 fullShare) $$ W7
  rw [hg7]
  rw [before_8] at hg8
  ihave W8 := (pointsTo_rep_entails (c : Thread nD τ) (ms0_8 t) g8 fullShare) $$ W8
  rw [hg8]
  rw [before_9] at hg9
  ihave W9 := (pointsTo_rep_entails (c : Thread nD τ) (ms0_9 t) g9 fullShare) $$ W9
  rw [hg9]
  rw [before_10] at hg10
  ihave W10 := (pointsTo_rep_entails (c : Thread nD τ) (ms0_10 t) g10 fullShare) $$ W10
  rw [hg10]
  rw [before_11] at hg11
  ihave W11 := (pointsTo_rep_entails (c : Thread nD τ) (ms0_11 t) g11 fullShare) $$ W11
  rw [hg11]
  rw [before_12] at hg12
  ihave W12 := (pointsTo_rep_entails (c : Thread nD τ) (ms0_12 t) g12 fullShare) $$ W12
  rw [hg12]
  rw [before_13] at hg13
  ihave W13 := (pointsTo_rep_entails (c : Thread nD τ) (ms0_13 t) g13 fullShare) $$ W13
  rw [hg13]
  rw [before_14] at hg14
  ihave W14 := (pointsTo_rep_entails (c : Thread nD τ) (ms0_14 t) g14 fullShare) $$ W14
  rw [hg14]
  rw [before_15] at hg15
  ihave W15 := (pointsTo_rep_entails (c : Thread nD τ) (ms0_15 t) g15 fullShare) $$ W15
  rw [hg15]
  rw [before_16] at hg16
  ihave W16 := (pointsTo_rep_entails (c : Thread nD τ) (ms0_16 t) g16 fullShare) $$ W16
  rw [hg16]
  rw [before_17] at hg17
  ihave W17 := (pointsTo_rep_entails (c : Thread nD τ) (ms0_17 t) g17 fullShare) $$ W17
  rw [hg17]
  rw [before_18] at hg18
  ihave W18 := (pointsTo_rep_entails (c : Thread nD τ) (ms0_18 t) g18 fullShare) $$ W18
  rw [hg18]
  ihave HR1 := (ring1_split c) $$ HR1
  icases HR1 with ⟨S0, S1, S2⟩
  ihave HR2 := (ring2_split c) $$ HR2
  icases HR2 with ⟨T0, T1, T2⟩
  ihave HRO := (ringO_split c) $$ HRO
  icases HRO with ⟨U0, U1⟩
  iapply (wp_wand_r frame (wpE (defs₀ (F := F)) Variants.none (c : Thread nD τ) none) Set.univ)
  isplitr [Hg]
  · iapply (bodyRun m c t W)
    unfold PRE wins
    isplitl [W0 W1 W2 W3 W4 W5 W6 W7 W8 W9 W10 W11 W12 W13 W14 W15 W16 W17 W18]
    ·
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexact W8
      isplitl [W9]; · iexact W9
      isplitl [W10]; · iexact W10
      isplitl [W11]; · iexact W11
      isplitl [W12]; · iexact W12
      isplitl [W13]; · iexact W13
      isplitl [W14]; · iexact W14
      isplitl [W15]; · iexact W15
      isplitl [W16]; · iexact W16
      isplitl [W17]; · iexact W17
      iexact W18
    isplitl [HW]; · iexact HW
    isplitl [Ha]; · iexact Ha
    isplitl [Hb]; · iexact Hb
    isplitl [Hh]; · iexact Hh
    isplitl [S0 C0]; · unfold free1; isplitl [S0]; · iexact S0
                       iexact C0
    isplitl [S1 C1]; · unfold free1; isplitl [S1]; · iexact S1
                       iexact C1
    isplitl [S2 C2]; · unfold free1; isplitl [S2]; · iexact S2
                       iexact C2
    isplitl [Hc]; · iexact Hc
    isplitl [Hd]; · iexact Hd
    isplitl [Hi]; · iexact Hi
    isplitl [T0 D0]; · unfold free2; isplitl [T0]; · iexact T0
                       iexact D0
    isplitl [T1 D1]; · unfold free2; isplitl [T1]; · iexact T1
                       iexact D1
    isplitl [T2 D2]; · unfold free2; isplitl [T2]; · iexact T2
                       iexact D2
    isplitl [U0 E0]; · unfold freeO; isplitl [U0]; · iexact U0
                       iexact E0
    isplitl [U1 E1]; · unfold freeO; isplitl [U1]; · iexact U1
                       iexact E1
    iexact Ho
  iintro %_ HP
  unfold POST wins free1 free2 freeO
  icases HP with ⟨⟨W0, W1, W2, W3, W4, W5, W6, W7, W8, W9, W10, W11, W12, W13, W14, W15, W16, W17, W18⟩, ⟨%W', HW⟩, Hh1, ⟨S0, C0⟩, ⟨S1, C1⟩, ⟨S2, C2⟩, Hh2, ⟨T0, D0⟩, ⟨T1, D1⟩, ⟨T2, D2⟩, ⟨U0, E0⟩, ⟨U1, E1⟩, Ho⟩
  isplitl [S0 S1 S2 T0 T1 T2 U0 U1 C0 C1 C2 D0 D1 D2 E0 E1 Hg Hh1 Hh2 Ho]
  · isplitl [S0 S1 S2 T0 T1 T2 U0 U1]
    · isplitl [S0 S1 S2]
      · iapply (ring1_join c)
        isplitl [S0]; · iexact S0
        isplitl [S1]; · iexact S1
        iexact S2
      isplitl [T0 T1 T2]
      · iapply (ring2_join c)
        isplitl [T0]; · iexact T0
        isplitl [T1]; · iexact T1
        iexact T2
      iapply (ringO_join c)
      isplitl [U0]; · iexact U0
      iexact U1
    isplitl [Hg]; · iexact Hg
    isplitl [C0 C1 C2 D0 D1 D2 E0 E1]
    · isplitl [C0]; · iexact C0
      isplitl [C1]; · iexact C1
      isplitl [C2]; · iexact C2
      isplitl [D0]; · iexact D0
      isplitl [D1]; · iexact D1
      isplitl [D2]; · iexact D2
      isplitl [E0]; · iexact E0
      iexact E1
    isplitl [Hh1 Hh2]
    · isplitl [Hh1]
      · irw [← homes_apart (homeP1 c (X1 m c))]; iexact Hh1
      irw [← homes_apart (homeP2 c (X2 m c))]; iexact Hh2
    iexact Ho
  isplitl [HW]
  · iexists W'; isplitr; · ipureintro; exact fun _ _ => Or.inl trivial
    iexact HW
  isplitl [W0]
  · iexists _; isplitr
    swap; · iexact W0
    ipureintro; exact (View.read_rep _ _).trans (after_0 m c t).symm
  isplitl [W1]
  · iexists _; isplitr
    swap; · iexact W1
    ipureintro; exact (View.read_rep _ _).trans (after_1 m c t).symm
  isplitl [W2]
  · iexists _; isplitr
    swap; · iexact W2
    ipureintro; exact (View.read_rep _ _).trans (after_2 m c t).symm
  isplitl [W3]
  · iexists _; isplitr
    swap; · iexact W3
    ipureintro; exact (View.read_rep _ _).trans (after_3 m c t).symm
  isplitl [W4]
  · iexists _; isplitr
    swap; · iexact W4
    ipureintro; exact (View.read_rep _ _).trans (after_4 m c t).symm
  isplitl [W5]
  · iexists _; isplitr
    swap; · iexact W5
    ipureintro; exact (View.read_rep _ _).trans (after_5 m c t).symm
  isplitl [W6]
  · iexists _; isplitr
    swap; · iexact W6
    ipureintro; exact (View.read_rep _ _).trans (after_6 m c t).symm
  isplitl [W7]
  · iexists _; isplitr
    swap; · iexact W7
    ipureintro; exact (View.read_rep _ _).trans (after_7 m c t).symm
  isplitl [W8]
  · iexists _; isplitr
    swap; · iexact W8
    ipureintro; exact (View.read_rep _ _).trans (after_8 m c t).symm
  isplitl [W9]
  · iexists _; isplitr
    swap; · iexact W9
    ipureintro; exact (View.read_rep _ _).trans (after_9 m c t).symm
  isplitl [W10]
  · iexists _; isplitr
    swap; · iexact W10
    ipureintro; exact (View.read_rep _ _).trans (after_10 m c t).symm
  isplitl [W11]
  · iexists _; isplitr
    swap; · iexact W11
    ipureintro; exact (View.read_rep _ _).trans (after_11 m c t).symm
  isplitl [W12]
  · iexists _; isplitr
    swap; · iexact W12
    ipureintro; exact (View.read_rep _ _).trans (after_12 m c t).symm
  isplitl [W13]
  · iexists _; isplitr
    swap; · iexact W13
    ipureintro; exact (View.read_rep _ _).trans (after_13 m c t).symm
  isplitl [W14]
  · iexists _; isplitr
    swap; · iexact W14
    ipureintro; exact (View.read_rep _ _).trans (after_14 m c t).symm
  isplitl [W15]
  · iexists _; isplitr
    swap; · iexact W15
    ipureintro; exact (View.read_rep _ _).trans (after_15 m c t).symm
  isplitl [W16]
  · iexists _; isplitr
    swap; · iexact W16
    ipureintro; exact (View.read_rep _ _).trans (after_16 m c t).symm
  isplitl [W17]
  · iexists _; isplitr
    swap; · iexact W17
    ipureintro; exact (View.read_rep _ _).trans (after_17 m c t).symm
  iexists _; isplitr
  swap; · iexact W18
  ipureintro; exact (View.read_rep _ _).trans (after_18 m c t).symm

theorem defs₀_row (t : Fin cfg0.N) : defs₀ (F := F) .tc cfg0.body (cfg0.bodyArgs t (cfg0.slots t)) = bodyAt0 t := by
  unfold defs₀; rw [Defs.onTc_tc]

theorem bodyAt_eq (t : Fin cfg0.N) : bodyAt0 (F := F) t = bodyG t := rfl

theorem body_obligation (c : Dev nD) : Pipeline.BodyObligation (dats (F := F) m 0 c) (defs₀ (F := F)) Variants.none () Set.univ := fun t => by
  rw [bigSep_W0, bigSep_W0, defs₀_row, bodyAt_eq]
  exact triple_restated (sound_body m c t) rfl .rfl fun _ => .rfl

/-! ## The run -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePostRG cfgs (dats m) 0 R0 (V m) (GG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := GG m)
    (hin := fun c => of_same (phi_zero m c : (dats m 0 c).Φ 0 = inv0 m (V m) c).symm)
    (hout := fun c => of_same (phi_one m c : (dats m 0 c).Φ (Fin.last cfg0.N) = inv0 m (GG m) c))

end Cert.Proof.Run

end
-- ==== Proof.Frames.lean ====
/-
  What the run leaves: the arguments as launched, the result's array at its computed contents, every counter at zero.
-/
module

public import proofs.«01_k».proof.Proof.Launch

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem args_kept (r : PUnit × MemSt nD τ sig (Elt F)) (h : Pipeline.FramePostR cfgs (dats m) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c),
    ((h c).2 main_arg4 (Finset.mem_sdiff.mpr ⟨Pipeline.mem_restRefs_of main_arg4 (by decide) (by decide), by decide⟩)).trans (V_main_arg4 m c),
    ((h c).2 main_arg5 (Finset.mem_sdiff.mpr ⟨Pipeline.mem_restRefs_of main_arg5 (by decide) (by decide), by decide⟩)).trans (V_main_arg5 m c),
    ((h c).1 4).trans (((dats m 0 c).arrAt_in 4 rfl _).trans ((A_eq m c 4).trans (V_main_arg6 m c))),
    ((h c).2 main_arg7 (Finset.mem_sdiff.mpr ⟨Pipeline.mem_restRefs_of main_arg7 (by decide) (by decide), by decide⟩)).trans (V_main_arg7 m c),
    ((h c).1 6).trans (((dats m 0 c).arrAt_in 6 rfl _).trans ((A_eq m c 6).trans (V_main_arg8 m c))),
    ((h c).2 main_arg9 (Finset.mem_sdiff.mpr ⟨Pipeline.mem_restRefs_of main_arg9 (by decide) (by decide), by decide⟩)).trans (V_main_arg9 m c),
    ((h c).1 8).trans (((dats m 0 c).arrAt_in 8 rfl _).trans ((A_eq m c 8).trans (V_main_arg10 m c))),
    ((h c).2 main_arg11 (Finset.mem_sdiff.mpr ⟨Pipeline.mem_restRefs_of main_arg11 (by decide) (by decide), by decide⟩)).trans (V_main_arg11 m c),
    ((h c).1 10).trans (((dats m 0 c).arrAt_in 10 rfl _).trans ((A_eq m c 10).trans (V_main_arg12 m c))),
    ((h c).2 main_arg13 (Finset.mem_sdiff.mpr ⟨Pipeline.mem_restRefs_of main_arg13 (by decide) (by decide), by decide⟩)).trans (V_main_arg13 m c),
    ((h c).1 12).trans (((dats m 0 c).arrAt_in 12 rfl _).trans ((A_eq m c 12).trans (V_main_arg14 m c))),
    ((h c).2 main_arg15 (Finset.mem_sdiff.mpr ⟨Pipeline.mem_restRefs_of main_arg15 (by decide) (by decide), by decide⟩)).trans (V_main_arg15 m c),
    ((h c).1 14).trans (((dats m 0 c).arrAt_in 14 rfl _).trans ((A_eq m c 14).trans (V_main_arg16 m c))),
    ((h c).2 main_arg17 (Finset.mem_sdiff.mpr ⟨Pipeline.mem_restRefs_of main_arg17 (by decide) (by decide), by decide⟩)).trans (V_main_arg17 m c),
    ((h c).2 main_arg18 (Finset.mem_sdiff.mpr ⟨Pipeline.mem_restRefs_of main_arg18 (by decide) (by decide), by decide⟩)).trans (V_main_arg18 m c),
    ((h c).2 main_arg19 (Finset.mem_sdiff.mpr ⟨Pipeline.mem_restRefs_of main_arg19 (by decide) (by decide), by decide⟩)).trans (V_main_arg19 m c)⟩

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨args_kept m r h.1.toR, h.2⟩) (run_main m ρ)

theorem value_any : θ_run defs (onTc (τ := τ) (main (F := F))) ⟨m, fun _ => 0, ρ⟩ (fun r => (∀ c : Dev nD,
      r.2.mem ((c.tc : Thread nD τ).loc main_v13) = GO m c t0_0)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))) :=
  (θ_run defs _ _).mono (fun r h => ⟨fun c => (h.1.written c (by decide)).trans (GG_result m c), args_kept m r h.1.toR⟩) (run_main m ρ)

end Cert.Proof.Run

end
-- ==== Proof.Claims.lean ====
/-
  The certificate's claims that speak of no value: every program terminates, keeps its arguments, and ends with every
  counter at zero. The kernel is run once, over any float values; its two programs have the same text.
-/
module

public import proofs.«01_k».proof.Defs
public import proofs.«01_k».proof.Proof.Same
public import proofs.«01_k».proof.Proof.Gen.ReferenceIdeal.Run
public import proofs.«01_k».proof.Proof.Frames
public import Idealize.ShloMosaic.Adequacy
public import Idealize.ShloMosaic.Init

@[expose] public section

noncomputable section

namespace Cert.Proof

open Idealize.ShloMosaic Idealize.SL.Sem

/-- The kernel's frame, over machine words: the one run read at the words. -/
theorem frame_kernel : Cert.quiescent_Kernel := fun m ρ _ => by
  rw [Same.defs_same, Same.main_same]
  exact (θ_run Cert.KernelIdeal.defs _ _).mono (fun _ h => h) (Run.frame_any (F := Bits) m ρ)

/-- The kernel's frame over the extended reals: the same run. -/
theorem frame_ideal : Cert.quiescent_KernelIdeal := fun m ρ _ =>
  (θ_run Cert.KernelIdeal.defs _ _).mono (fun _ h => h) (Run.frame_any (F := Ideal) m ρ)

/-- The reference's frame: its straight-line run, and it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Value.lean ====
/-
  The value: over the extended reals the kernel's result is the reference's, wherever each branch's scaling may be regrouped.
-/
module

public import proofs.«01_k».proof.Proof.KernelRows
public import proofs.«01_k».proof.Proof.Scale
public import proofs.«01_k».proof.Proof.Claims

@[expose] public section

noncomputable section

namespace Cert.Proof.Rows

open Idealize.ShloMosaic Cert.ReferenceIdeal Cert.ReferenceIdeal.Gen

/-- The reference's result, one row and one column read. -/
theorem refAll_apply (x1 x2 : FVec Ideal S10000x128 .f32) (a1 a2 : FVec Ideal S10000x10000 .f32) (e1 e2 : FVec Ideal S1 .f32)
    (W10 : FVec Ideal S128x128 .f32) (b10 : FVec Ideal S128 .f32) (W11 : FVec Ideal S128x128 .f32) (b11 : FVec Ideal S128 .f32)
    (W12 : FVec Ideal S128x128 .f32) (b12 : FVec Ideal S128 .f32) (W20 : FVec Ideal S128x128 .f32) (b20 : FVec Ideal S128 .f32)
    (W21 : FVec Ideal S128x128 .f32) (b21 : FVec Ideal S128 .f32) (W22 : FVec Ideal S128x128 .f32) (b22 : FVec Ideal S128 .f32)
    (Wm : FVec Ideal S256x128 .f32) (bm : FVec Ideal S128 .f32) (r : Fin 10000) (j : Fin 128) :
    refAll x1 x2 a1 a2 e1 e2 W10 b10 W11 b11 W12 b12 W20 b20 W21 b21 W22 b22 Wm bm (ix2 r j)
      = mix (branch (fun k => agg (fun l => a1 (ix2 r l)) (mat x1) k + (1 + e1 (ix1 0)) * agg (fun l => a1 (ix2 r l)) (mat x1) k)
            (mat W10) (mat W11) (mat W12) (vec b10) (vec b11) (vec b12))
          (branch (fun k => agg (fun l => a2 (ix2 r l)) (mat x2) k + (1 + e2 (ix1 0)) * agg (fun l => a2 (ix2 r l)) (mat x2) k)
            (mat W20) (mat W21) (mat W22) (vec b20) (vec b21) (vec b22))
          (fun k j => Wm (ix2 ⟨k.val, by omega⟩ j)) (fun k j => Wm (ix2 ⟨128 + k.val, by omega⟩ j)) (vec bm) j := by
  unfold refAll
  rw [refMix_apply]
  simp only [refLayer_apply, refAgg_apply]
  rfl

attribute [local instance] preFacts

/-- The precondition, unpacked: each branch's scaling may be regrouped. -/
theorem scales_of_pre (m : (ℓ : Loc Cert.KernelIdeal.nD Cert.KernelIdeal.τ Cert.KernelIdeal.sig) → Buf (Elt Ideal) ℓ)
    (h : Cert.Pre_KernelIdeal_scalable m) (c : Dev Cert.KernelIdeal.nD) :
    Scales (m ((c.tc : Thread Cert.KernelIdeal.nD Cert.KernelIdeal.τ).loc Cert.KernelIdeal.main_arg0)) (m ((c.tc : Thread Cert.KernelIdeal.nD Cert.KernelIdeal.τ).loc Cert.KernelIdeal.main_arg2)) ((m ((c.tc : Thread Cert.KernelIdeal.nD Cert.KernelIdeal.τ).loc Cert.KernelIdeal.main_arg4)) (ix1 0)) ∧ Scales (m ((c.tc : Thread Cert.KernelIdeal.nD Cert.KernelIdeal.τ).loc Cert.KernelIdeal.main_arg1)) (m ((c.tc : Thread Cert.KernelIdeal.nD Cert.KernelIdeal.τ).loc Cert.KernelIdeal.main_arg3)) ((m ((c.tc : Thread Cert.KernelIdeal.nD Cert.KernelIdeal.τ).loc Cert.KernelIdeal.main_arg5)) (ix1 0)) := by
  obtain ⟨h1, h2⟩ := IntOp.andi_eq_one.1 (congrFun (h c) (fun a => a.elim0))
  exact ⟨scales_of_test _ _ _ _ h1, scales_of_test _ _ _ _ h2⟩

/-- The kernel's result is the reference's of the same arguments. -/
theorem GO_eq (m : (ℓ : Loc Cert.KernelIdeal.nD Cert.KernelIdeal.τ Cert.KernelIdeal.sig) → Buf (Elt Ideal) ℓ)
    (h : Cert.Pre_KernelIdeal_scalable m) (c : Dev Cert.KernelIdeal.nD) (t : Fin Cert.KernelIdeal.cfg0.N) :
    Run.GO m c t = refAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) := by
  obtain ⟨h1, h2⟩ := scales_of_pre m h c
  funext i
  obtain ⟨r, j, rfl⟩ : ∃ (r : Fin 10000) (j : Fin 128), i = ix2 r j := ⟨i 0, i 1, eq_ix2 i⟩
  rw [refAll_apply]
  refine (GO_apply m c t r j).trans ?_
  have q1 : (fun k => ((2 : EReal) + (m ((c.tc : Thread Cert.KernelIdeal.nD Cert.KernelIdeal.τ).loc Cert.KernelIdeal.main_arg4)) (ix1 0)) * agg (fun l => (m ((c.tc : Thread Cert.KernelIdeal.nD Cert.KernelIdeal.τ).loc Cert.KernelIdeal.main_arg2)) (ix2 r l)) (mat (m ((c.tc : Thread Cert.KernelIdeal.nD Cert.KernelIdeal.τ).loc Cert.KernelIdeal.main_arg0))) k) = _ := funext fun k => h1.eq r k
  have q2 : (fun k => ((2 : EReal) + (m ((c.tc : Thread Cert.KernelIdeal.nD Cert.KernelIdeal.τ).loc Cert.KernelIdeal.main_arg5)) (ix1 0)) * agg (fun l => (m ((c.tc : Thread Cert.KernelIdeal.nD Cert.KernelIdeal.τ).loc Cert.KernelIdeal.main_arg3)) (ix2 r l)) (mat (m ((c.tc : Thread Cert.KernelIdeal.nD Cert.KernelIdeal.τ).loc Cert.KernelIdeal.main_arg1))) k) = _ := funext fun k => h2.eq r k
  exact congrArg₂ (fun s s' => mix (branch s (mat (m ((c.tc : Thread Cert.KernelIdeal.nD Cert.KernelIdeal.τ).loc Cert.KernelIdeal.main_arg6))) (mat (m ((c.tc : Thread Cert.KernelIdeal.nD Cert.KernelIdeal.τ).loc Cert.KernelIdeal.main_arg8))) (mat (m ((c.tc : Thread Cert.KernelIdeal.nD Cert.KernelIdeal.τ).loc Cert.KernelIdeal.main_arg10))) (vec (m ((c.tc : Thread Cert.KernelIdeal.nD Cert.KernelIdeal.τ).loc Cert.KernelIdeal.main_arg7))) (vec (m ((c.tc : Thread Cert.KernelIdeal.nD Cert.KernelIdeal.τ).loc Cert.KernelIdeal.main_arg9))) (vec (m ((c.tc : Thread Cert.KernelIdeal.nD Cert.KernelIdeal.τ).loc Cert.KernelIdeal.main_arg11))))
    (branch s' (mat (m ((c.tc : Thread Cert.KernelIdeal.nD Cert.KernelIdeal.τ).loc Cert.KernelIdeal.main_arg12))) (mat (m ((c.tc : Thread Cert.KernelIdeal.nD Cert.KernelIdeal.τ).loc Cert.KernelIdeal.main_arg14))) (mat (m ((c.tc : Thread Cert.KernelIdeal.nD Cert.KernelIdeal.τ).loc Cert.KernelIdeal.main_arg16))) (vec (m ((c.tc : Thread Cert.KernelIdeal.nD Cert.KernelIdeal.τ).loc Cert.KernelIdeal.main_arg13))) (vec (m ((c.tc : Thread Cert.KernelIdeal.nD Cert.KernelIdeal.τ).loc Cert.KernelIdeal.main_arg15))) (vec (m ((c.tc : Thread Cert.KernelIdeal.nD Cert.KernelIdeal.τ).loc Cert.KernelIdeal.main_arg17))))
    (fun k j => (m ((c.tc : Thread Cert.KernelIdeal.nD Cert.KernelIdeal.τ).loc Cert.KernelIdeal.main_arg18)) (ix2 ⟨k.val, by omega⟩ j)) (fun k j => (m ((c.tc : Thread Cert.KernelIdeal.nD Cert.KernelIdeal.τ).loc Cert.KernelIdeal.main_arg18)) (ix2 ⟨128 + k.val, by omega⟩ j)) (vec (m ((c.tc : Thread Cert.KernelIdeal.nD Cert.KernelIdeal.τ).loc Cert.KernelIdeal.main_arg19))) j) q1 q2

end Cert.Proof.Rows

namespace Cert.Proof

open Idealize.ShloMosaic Idealize.SL.Sem

attribute [local instance] Rows.preFacts

/-- The value claim. -/
theorem algebraic : Cert.algebraic_KernelIdeal_ReferenceIdeal_pre_scalable := fun m g m' g' hpre hargs => by
  refine ⟨fun c => Run.GO m c Cert.KernelIdeal.Gen.t0_0, ?_, ?_⟩
  · exact (θ_run Cert.KernelIdeal.defs _ _).mono (fun _ h c => ⟨h.1 c, h.2 c⟩) (Run.value_any (F := Ideal) m g)
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7, a8, a9, a10, a11, a12, a13, a14, a15, a16, a17, a18, a19⟩ := hargs c
    show Rows.refAll (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) = Run.GO m c Cert.KernelIdeal.Gen.t0_0
    rw [Rows.GO_eq m hpre c]
    rw [a0, a1, a2, a3, a4, a5, a6, a7, a8, a9, a10, a11, a12, a13, a14, a15, a16, a17, a18, a19]

end Cert.Proof

end
-- ==== Proof.lean ====
/-
  The certificate: the kernel's frame over machine words and over the extended reals, the reference's frame, that the
  ideal program is the kernel's, and that its result is the reference's.
-/
module

public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, Rows.preFacts,
    frame_kernel, frame_ideal, fun m g _ => frame_ideal m g trivial, frame_reference, fun m g _ => frame_reference m g trivial,
    trivial, algebraic⟩

end Cert.Proof

end
